-- ==== Defs.lean ====
def Pre_Kernel [hPre_on_the_grid : Cert.Pre_on_the_grid.Facts] (m : (ℓ : Loc Cert.Kernel.nD Cert.Kernel.τ Cert.Kernel.sig) → Buf (Elt Bits) ℓ) : Prop :=
  ∀ c : Dev Cert.Kernel.nD,
    (Cert.Pre_on_the_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_on_the_grid : Cert.Pre_on_the_grid.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_grid [hPre_on_the_grid : Cert.Pre_on_the_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_on_the_grid : Cert.Pre_on_the_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_on_the_grid : Cert.Pre_on_the_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_on_the_grid [hReferenceIdeal : Cert.ReferenceIdeal.Facts] [hPre_on_the_grid : Cert.Pre_on_the_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_on_the_grid : Cert.Pre_on_the_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_on_the_grid : Cert.Pre_on_the_grid.Facts),
    quiescent_Kernel (hKernel := hKernel) (hPre_on_the_grid := hPre_on_the_grid)
    ∧ quiescent_KernelIdeal (hKernelIdeal := hKernelIdeal) (hPre_on_the_grid := hPre_on_the_grid)
    ∧ quiescent_ReferenceIdeal (hReferenceIdeal := hReferenceIdeal)
    ∧ quiescent_ReferenceIdeal_pre_on_the_grid (hReferenceIdeal := hReferenceIdeal) (hPre_on_the_grid := hPre_on_the_grid)
    ∧ preserves_Kernel_KernelIdeal
    ∧ algebraic_KernelIdeal_ReferenceIdeal (hKernelIdeal := hKernelIdeal) (hReferenceIdeal := hReferenceIdeal) (hPre_on_the_grid := hPre_on_the_grid)
-- ==== Pre_on_the_grid.lean ====
abbrev S200000x32 : Shape := ⟨2, ![200000, 32]⟩
abbrev S200000x4 : Shape := ⟨2, ![200000, 4]⟩
abbrev S32x32x32 : Shape := ⟨3, ![32, 32, 32]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel

variable [Facts]

def fn {F : FTy → Type} [FloatOps F] (main_arg0 : FVec F S200000x32 .f32) (main_arg1 : IVec S200000x4 32) (main_arg2 : FVec F S32x32x32 .f32) (main_arg3 : IVec S_ 32) : IVec S_ 1 :=
  let main_c : IVec S_ 32 := constantI S_ 32 0#32
  let main_v0 : IVec S200000x4 32 := broadcastInDim S200000x4 ![] bcast_S_S200000x4 main_c
  let main_v1 : IVec S200000x4 1 := cmpi .sge main_arg1 main_v0
  let main_c_0 : IVec S_ 32 := constantI S_ 32 32#32
  let main_v2 : IVec S200000x4 32 := broadcastInDim S200000x4 ![] bcast_S_S200000x4 main_c_0
  let main_v3 : IVec S200000x4 1 := cmpi .slt main_arg1 main_v2
  let main_v4 : IVec S200000x4 1 := andi main_v1 main_v3
  let main_c_1 : IVec S_ 1 := constantI S_ 1 1#1
  let main_v5 : IVec S_ 1 := (fun x v => Host.reduce IntOp.andi x v reducesTo_S200000x4_S_d0_1 h_S_) main_v4 main_c_1
  let main_c_2 : IVec S_ 32 := constantI S_ 32 1#32
  let main_v6 : IVec S_ 1 := cmpi .sge main_arg3 main_c_2
  let main_v7 : IVec S_ 1 := andi main_v5 main_v6
  main_v7
-- ==== Kernel.lean ====
abbrev S200000x32 : Shape := ⟨2, ![200000, 32]⟩
abbrev S200000x4 : Shape := ⟨2, ![200000, 4]⟩
abbrev S32x32x32 : Shape := ⟨3, ![32, 32, 32]⟩
abbrev S_ : Shape := ⟨0, ![]⟩
abbrev S200000x1 : Shape := ⟨2, ![200000, 1]⟩
abbrev S200000x5 : Shape := ⟨2, ![200000, 5]⟩
abbrev S200192x5 : Shape := ⟨2, ![200192, 5]⟩
abbrev S200192x32 : Shape := ⟨2, ![200192, 32]⟩
abbrev S1024x32 : Shape := ⟨2, ![1024, 32]⟩
abbrev S200192x48 : Shape := ⟨2, ![200192, 48]⟩
abbrev S200192x1 : Shape := ⟨2, ![200192, 1]⟩
abbrev S512x5 : Shape := ⟨2, ![512, 5]⟩
abbrev S512x32 : Shape := ⟨2, ![512, 32]⟩
abbrev S512x48 : Shape := ⟨2, ![512, 48]⟩
abbrev S512x1 : Shape := ⟨2, ![512, 1]⟩
abbrev S512x1024 : Shape := ⟨2, ![512, 1024]⟩
abbrev S512x16 : Shape := ⟨2, ![512, 16]⟩
abbrev S32768x48 : Shape := ⟨2, ![32768, 48]⟩
abbrev S1x1 : Shape := ⟨2, ![1, 1]⟩
abbrev S1x48 : Shape := ⟨2, ![1, 48]⟩
abbrev S32768x32 : Shape := ⟨2, ![32768, 32]⟩
abbrev S32768x4 : Shape := ⟨2, ![32768, 4]⟩
abbrev S2048x48 : Shape := ⟨2, ![2048, 48]⟩
abbrev S2048x32 : Shape := ⟨2, ![2048, 32]⟩
abbrev S2048x4 : Shape := ⟨2, ![2048, 4]⟩
abbrev S2048x1 : Shape := ⟨2, ![2048, 1]⟩

abbrev nBuf : Space → Nat
  | .hbm => 34
  | .vmem => 18
  | .smem => 2
  | _ => 0

abbrev bufTy : (tb : Table) → Fin (tcTables nBuf tb) → BufTy
  | .hbm, ⟨0, _⟩ => ⟨S200000x32, .f32⟩
  | .hbm, ⟨1, _⟩ => ⟨S200000x4, .i32⟩
  | .hbm, ⟨2, _⟩ => ⟨S32x32x32, .f32⟩
  | .hbm, ⟨3, _⟩ => ⟨S_, .i32⟩
  | .hbm, ⟨4, _⟩ => ⟨S200000x1, .i32⟩
  | .hbm, ⟨5, _⟩ => ⟨S200000x1, .i32⟩
  | .hbm, ⟨6, _⟩ => ⟨S200000x1, .i32⟩
  | .hbm, ⟨7, _⟩ => ⟨S200000x1, .i32⟩
  | .hbm, ⟨8, _⟩ => ⟨S_, .i32⟩
  | .hbm, ⟨9, _⟩ => ⟨S200000x1, .i32⟩
  | .hbm, ⟨10, _⟩ => ⟨S200000x1, .i1⟩
  | .hbm, ⟨11, _⟩ => ⟨S200000x1, .i32⟩
  | .hbm, ⟨12, _⟩ => ⟨S200000x1, .i32⟩
  | .hbm, ⟨13, _⟩ => ⟨S_, .i32⟩
  | .hbm, ⟨14, _⟩ => ⟨S200000x1, .i32⟩
  | .hbm, ⟨15, _⟩ => ⟨S200000x1, .i1⟩
  | .hbm, ⟨16, _⟩ => ⟨S200000x1, .i1⟩
  | .hbm, ⟨17, _⟩ => ⟨S_, .i32⟩
  | .hbm, ⟨18, _⟩ => ⟨S200000x1, .i32⟩
  | .hbm, ⟨19, _⟩ => ⟨S200000x1, .i32⟩
  | .hbm, ⟨20, _⟩ => ⟨S200000x1, .i32⟩
  | .hbm, ⟨21, _⟩ => ⟨S200000x5, .i32⟩
  | .hbm, ⟨22, _⟩ => ⟨S_, .i32⟩
  | .hbm, ⟨23, _⟩ => ⟨S_, .i32⟩
  | .hbm, ⟨24, _⟩ => ⟨S200192x5, .i32⟩
  | .hbm, ⟨25, _⟩ => ⟨S_, .i32⟩
  | .hbm, ⟨26, _⟩ => ⟨S_, .f32⟩
  | .hbm, ⟨27, _⟩ => ⟨S200192x32, .f32⟩
  | .hbm, ⟨28, _⟩ => ⟨S1024x32, .f32⟩
  | .hbm, ⟨29, _⟩ => ⟨S200192x48, .f32⟩
  | .hbm, ⟨30, _⟩ => ⟨S200192x1, .i32⟩
  | .hbm, ⟨31, _⟩ => ⟨S32768x48, .f32⟩
  | .hbm, ⟨32, _⟩ => ⟨S32768x32, .f32⟩
  | .hbm, ⟨33, _⟩ => ⟨S32768x4, .i32⟩
  | .local _ .vmem, ⟨0, _⟩ => ⟨S512x5, .i32⟩
  | .local _ .vmem, ⟨1, _⟩ => ⟨S512x5, .i32⟩
  | .local _ .vmem, ⟨2, _⟩ => ⟨S512x32, .f32⟩
  | .local _ .vmem, ⟨3, _⟩ => ⟨S512x32, .f32⟩
  | .local _ .vmem, ⟨4, _⟩ => ⟨S1024x32, .f32⟩
  | .local _ .vmem, ⟨5, _⟩ => ⟨S512x48, .f32⟩
  | .local _ .vmem, ⟨6, _⟩ => ⟨S512x48, .f32⟩
  | .local _ .vmem, ⟨7, _⟩ => ⟨S512x1, .i32⟩
  | .local _ .vmem, ⟨8, _⟩ => ⟨S512x1, .i32⟩
  | .local _ .vmem, ⟨9, _⟩ => ⟨S512x48, .f32⟩
  | .local _ .vmem, ⟨10, _⟩ => ⟨S512x48, .f32⟩
  | .local _ .vmem, ⟨11, _⟩ => ⟨S32768x48, .f32⟩
  | .local _ .vmem, ⟨12, _⟩ => ⟨S2048x48, .f32⟩
  | .local _ .vmem, ⟨13, _⟩ => ⟨S2048x48, .f32⟩
  | .local _ .vmem, ⟨14, _⟩ => ⟨S2048x32, .f32⟩
  | .local _ .vmem, ⟨15, _⟩ => ⟨S2048x32, .f32⟩
  | .local _ .vmem, ⟨16, _⟩ => ⟨S2048x4, .i32⟩
  | .local _ .vmem, ⟨17, _⟩ => ⟨S2048x4, .i32⟩
  | .local _ .smem, ⟨0, _⟩ => ⟨S512x1, .i32⟩
  | .local _ .smem, ⟨1, _⟩ => ⟨S512x1, .i32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_c : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c_0 : Ref sig .tc := ⟨.hbm, 17, rfl⟩
abbrev main_call0_v11 : Ref sig .tc := ⟨.hbm, 18, rfl⟩
abbrev main_call0_v12 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call1_v0 : Ref sig .tc := ⟨.hbm, 23, rfl⟩
abbrev main_v3 : Ref sig .tc := ⟨.hbm, 24, rfl⟩
abbrev main_c_0 : Ref sig .tc := ⟨.hbm, 25, rfl⟩
abbrev main_call2_v0 : Ref sig .tc := ⟨.hbm, 26, rfl⟩
abbrev main_v4 : Ref sig .tc := ⟨.hbm, 27, rfl⟩
abbrev main_v5 : Ref sig .tc := ⟨.hbm, 28, rfl⟩
abbrev main_v6_0 : Ref sig .tc := ⟨.hbm, 29, rfl⟩
abbrev main_v6_1 : Ref sig .tc := ⟨.hbm, 30, rfl⟩
abbrev main_v7 : Ref sig .tc := ⟨.hbm, 31, rfl⟩
abbrev main_v8_0 : Ref sig .tc := ⟨.hbm, 32, rfl⟩
abbrev main_v8_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![391], ![false]⟩

@[reducible] def k1_t1_loop : Scf.Loop 32 :=
  let c0_i32_1 : BitVec 32 := 0#32
  let c512_i32 : BitVec 32 := 512#32
  let v3 : BitVec 32 := Scalar.addi c0_i32_1 c512_i32
  let c1_i32 : BitVec 32 := 1#32
  ⟨c0_i32_1, v3, c1_i32⟩
def k1_off1 (k1_t1 : Fin k1_t1_loop.trips) : Fin 2 → Nat :=
  let c0_i32_1 : BitVec 32 := 0#32
  let c1_i32 : BitVec 32 := 1#32
  let arg4 : BitVec 32 := Scf.iv c0_i32_1 c1_i32 k1_t1
  let v4 : Index := Scalar.indexCast arg4
  let c0 : Index := 0#32
  ![v4.toNat, 0]
def k1_off2 (v5 : BitVec 32) : Fin 2 → Nat :=
  let v6 : Index := Scalar.indexCast v5
  let c0_3 : Index := 0#32
  ![v6.toNat, 0]

def k1_chk1 (v5 : BitVec 32) : Prop :=
  (∀ a, (k1_off2 v5) a + S1x48.size a ≤ S32768x48.size a)
theorem k1_off2_inb : ∀ (v5 : BitVec 32) (k1_hw1 : k1_chk1 v5), ∀ a, (k1_off2 v5) a + S1x48.size a ≤ S32768x48.size a := fun v5 k1_hw1 => k1_hw1

def k1_off3 (k1_t1 : Fin k1_t1_loop.trips) : Fin 2 → Nat :=
  let c0_i32_1 : BitVec 32 := 0#32
  let c1_i32 : BitVec 32 := 1#32
  let arg4 : BitVec 32 := Scf.iv c0_i32_1 c1_i32 k1_t1
  let v9 : Index := Scalar.indexCast arg4
  let c0_4 : Index := 0#32
  ![v9.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32768x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x4 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S200000x32 : Shape := ⟨2, ![200000, 32]⟩
abbrev S200000x4 : Shape := ⟨2, ![200000, 4]⟩
abbrev S32x32x32 : Shape := ⟨3, ![32, 32, 32]⟩
abbrev S_ : Shape := ⟨0, ![]⟩
abbrev S200000x1 : Shape := ⟨2, ![200000, 1]⟩
abbrev S200000 : Shape := ⟨1, ![200000]⟩
abbrev S1 : Shape := ⟨1, ![1]⟩
abbrev S1x1 : Shape := ⟨2, ![1, 1]⟩
abbrev S200000x32x32 : Shape := ⟨3, ![200000, 32, 32]⟩
abbrev S200000x32x1 : Shape := ⟨3, ![200000, 32, 1]⟩
abbrev S32768x32 : Shape := ⟨2, ![32768, 32]⟩
abbrev S32768x4 : Shape := ⟨2, ![32768, 4]⟩

abbrev nBuf : Space → Nat
  | .hbm => 84
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S200000x4, .i32⟩
  | .hbm, ⟨2, _⟩ => ⟨S32x32x32, .f32⟩
  | .hbm, ⟨3, _⟩ => ⟨S_, .i32⟩
  | .hbm, ⟨4, _⟩ => ⟨S200000x1, .i32⟩
  | .hbm, ⟨5, _⟩ => ⟨S200000, .i32⟩
  | .hbm, ⟨6, _⟩ => ⟨S200000, .i32⟩
  | .hbm, ⟨7, _⟩ => ⟨S200000, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S200000, .i32⟩
  | .hbm, ⟨13, _⟩ => ⟨S200000, .i32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S_, .i32⟩
  | .hbm, ⟨23, _⟩ => ⟨S200000, .i32⟩
  | .hbm, ⟨24, _⟩ => ⟨S200000, .i1⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S200000, .i32⟩
  | .hbm, ⟨29, _⟩ => ⟨S200000x1, .i32⟩
  | .hbm, ⟨30, _⟩ => ⟨S1, .i32⟩
  | .hbm, ⟨31, _⟩ => ⟨S_, .i32⟩
  | .hbm, ⟨32, _⟩ => ⟨S200000x1, .i32⟩
  | .hbm, ⟨33, _⟩ => ⟨S200000x1, .i1⟩
  | .hbm, ⟨34, _⟩ => ⟨S1x1, .i32⟩
  | .hbm, ⟨35, _⟩ => ⟨S200000x1, .i32⟩
  | .hbm, ⟨36, _⟩ => ⟨S200000x1, .i1⟩
  | .hbm, ⟨37, _⟩ => ⟨S200000x1, .i1⟩
  | .hbm, ⟨38, _⟩ => ⟨S_, .i1⟩
  | .hbm, ⟨39, _⟩ => ⟨S200000, .i1⟩
  | .hbm, ⟨40, _⟩ => ⟨S200000x32x32, .f32⟩
  | .hbm, ⟨41, _⟩ => ⟨S200000x32x32, .i1⟩
  | .hbm, ⟨42, _⟩ => ⟨S_, .f32⟩
  | .hbm, ⟨43, _⟩ => ⟨S200000x32x32, .f32⟩
  | .hbm, ⟨44, _⟩ => ⟨S200000x32x32, .f32⟩
  | .hbm, ⟨45, _⟩ => ⟨S200000x32x1, .f32⟩
  | .hbm, ⟨46, _⟩ => ⟨S200000x32x32, .f32⟩
  | .hbm, ⟨47, _⟩ => ⟨S200000x32x32, .f32⟩
  | .hbm, ⟨48, _⟩ => ⟨S_, .f32⟩
  | .hbm, ⟨49, _⟩ => ⟨S200000x32, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S200000, .i32⟩
  | .hbm, ⟨54, _⟩ => ⟨S200000x4, .i32⟩
  | .hbm, ⟨55, _⟩ => ⟨S200000x1, .i32⟩
  | .hbm, ⟨56, _⟩ => ⟨S200000, .i32⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000, .i32⟩
  | .hbm, ⟨62, _⟩ => ⟨S200000, .i32⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000, .i32⟩
  | .hbm, ⟨68, _⟩ => ⟨S200000, .i32⟩
  | .hbm, ⟨69, _⟩ => ⟨S_, .f32⟩
  | .hbm, ⟨70, _⟩ => ⟨S32768x32, .f32⟩
  | .hbm, ⟨71, _⟩ => ⟨S200000x1, .i32⟩
  | .hbm, ⟨72, _⟩ => ⟨S32768x32, .f32⟩
  | .hbm, ⟨73, _⟩ => ⟨S_, .i32⟩
  | .hbm, ⟨74, _⟩ => ⟨S32768x4, .i32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S32768x4, .i32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_0 : Ref sig .tc := ⟨.hbm, 18, rfl⟩
abbrev main_call0_v11 : Ref sig .tc := ⟨.hbm, 19, rfl⟩
abbrev main_call0_v12 : Ref sig .tc := ⟨.hbm, 20, rfl⟩
abbrev main_v2 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_c : Ref sig .tc := ⟨.hbm, 50, rfl⟩
abbrev main_v8 : Ref sig .tc := ⟨.hbm, 51, rfl⟩
abbrev main_c_0 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c_2 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_4 : Ref sig .tc := ⟨.hbm, 73, rfl⟩
abbrev main_v26 : Ref sig .tc := ⟨.hbm, 74, rfl⟩
abbrev main_c_5 : Ref sig .tc := ⟨.hbm, 75, rfl⟩
abbrev main_v27 : Ref sig .tc := ⟨.hbm, 76, rfl⟩
abbrev main_v28 : Ref sig .tc := ⟨.hbm, 77, rfl⟩
abbrev main_c_6 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩

abbrev nD : Nat := 1
abbrev τ : Topo := Topo.v7x

variable {F : FTy → Type} [FloatOps F]
-- ==== Proof.Grid.lean ====
/-
  What the precondition says of a memory: every coordinate is a number below 32, and the stride is positive.
-/
module

public import proofs.«01_k».proof.Pre_on_the_grid
public import Idealize.ShloMosaic.Lib.Pointwise
public import Idealize.ShloMosaic.Lib.ReduceAll
public import Idealize.ShloMosaic.Lib.WordCmp
public import Idealize.ShloMosaic.Lib.Affine

@[expose] public section

noncomputable section

namespace Cert.Grid

open Idealize.ShloMosaic Cert.Pre_on_the_grid

variable {F : FTy → Type} [FloatOps F]

/-- A word that is at least zero and below 32, both signed, is a number below 32. -/
theorem lt_of_bits (x : BitVec 32) (h : IntOp.andi (IntOp.cmpi .sge x 0#32) (IntOp.cmpi .slt x 32#32) = 1#1) : x.toNat < 32 := by
  rw [show (32#32 : BitVec 32) = BitVec.ofNat 32 32 from rfl, WordCmp.andi_sge_zero_slt_ofNat (by decide)] at h
  simpa [WordCmp.ofBool_eq_one_iff] using h

/-- A conjunction of two bits is set only where both are. -/
theorem and_bits (a b : BitVec 1) (h : IntOp.andi a b = 1#1) : a = 1#1 ∧ b = 1#1 := by
  revert a b
  decide

/-- The side conditions the precondition's operations state. -/
instance facts : Facts where
  bcast_S_S200000x4 := by decide
  reducesTo_S200000x4_S_d0_1 := by decide
  h_S_ := by decide

/-- The precondition as two facts: every coordinate is below 32 and the stride is at least one. -/
theorem of_pre [Facts] (x0 : FVec F S200000x32 .f32) (x1 : IVec S200000x4 32) (x2 : FVec F S32x32x32 .f32) (x3 : IVec S_ 32)
    (h : fn x0 x1 x2 x3 = fun _ => 1#1) : (∀ i, (x1 i).toNat < 32) ∧ ∀ e, 1 ≤ (x3 e).toInt := by
  have hb : ∀ e : S_.Idx, _ := fun e => and_bits _ _ (congrFun h e)
  haveI : Subsingleton S_.Idx := ⟨fun a b => funext fun d => d.elim0⟩
  refine ⟨fun i => ?_, fun e => ?_⟩
  · have := Host.reduce_andi_all _ _ _ _ _ (hb (fun d => d.elim0)).1 i
    exact lt_of_bits _ this
  · have := (hb e).2
    have h2 : IntOp.cmpi .sge (x3 e) 1#32 = 1#1 := this
    rw [WordCmp.cmpi_sge_eq, WordCmp.ofBool_eq_one_iff, decide_eq_true_eq] at h2
    exact h2

end Cert.Grid

end
-- ==== Proof.Words.lean ====
/-
  Words that hold small numbers: the two spellings by which a floored quotient and a floored remainder are computed
  from the truncated ones give, for numbers that are not negative, the quotient and the remainder.
-/
module

public import Idealize.ShloMosaic.Lib.Pointwise
public import Idealize.ShloMosaic.Lib.WordCmp
public import Idealize.ShloMosaic.Lib.Routing.Words

@[expose] public section

namespace Cert.Words

open Idealize.ShloMosaic

/-- A word is not different from itself. -/
theorem ne_self (x : BitVec 32) : IntOp.cmpi .ne x x = 0#1 := by
  rw [WordCmp.cmpi_ne_eq]
  simp

/-- A bit and the clear bit. -/
theorem and_clear (b : BitVec 1) : IntOp.andi b 0#1 = 0#1 := by
  revert b
  decide

/-- The clear bit and a bit. -/
theorem clear_and (b : BitVec 1) : IntOp.andi 0#1 b = 0#1 := by
  revert b
  decide

/-- A choice on an equality of words. -/
theorem select_eq {α : Type} (x y : BitVec 32) (a b : α) : Scalar.select (IntOp.cmpi .eq x y) a b = if x = y then a else b := by
  rw [WordCmp.cmpi_eq_eq, WordCmp.select_decide]

/-- The floored quotient of two positive words, computed as the truncated quotient less one where the signs differ and
    the remainder is not zero, is the quotient. -/
theorem floor_quot (u : ArithUnit) {a b : Nat} (g : BitVec 32) (hg : g = 1#32) (ha : a < 2 ^ 31) (h0 : 0 < b) (hb : b < 2 ^ 31) :
    Scalar.select
      (IntOp.andi
        (IntOp.cmpi .ne
          (IntOp.subi (BitVec.setWidth 32 (IntOp.cmpi .sgt (BitVec.ofNat 32 a) 0#32)) (BitVec.setWidth 32 (IntOp.cmpi .slt (BitVec.ofNat 32 a) 0#32))) g)
        (IntOp.cmpi .ne (IntOp.remsi u (BitVec.ofNat 32 a) (BitVec.ofNat 32 b)) 0#32))
      (IntOp.subi (IntOp.divsi u (BitVec.ofNat 32 a) (BitVec.ofNat 32 b)) 1#32)
      (IntOp.divsi u (BitVec.ofNat 32 a) (BitVec.ofNat 32 b))
    = BitVec.ofNat 32 (a / b) := by
  rw [Routing.divsi_word u ha h0 hb, Routing.remsi_word u ha h0 hb]
  rcases Nat.eq_zero_or_pos a with h | h
  · subst h
    rw [Nat.zero_mod, ne_self, and_clear]
    rfl
  · subst hg
    rw [show (0#32 : BitVec 32) = BitVec.ofNat 32 0 from rfl, WordCmp.cmpi_sgt_ofNat ha (by decide), WordCmp.cmpi_slt_ofNat ha (by decide),
      decide_eq_true h, decide_eq_false (Nat.not_lt_zero a)]
    rw [show IntOp.subi (BitVec.setWidth 32 (BitVec.ofBool true)) (BitVec.setWidth 32 (BitVec.ofBool false)) = 1#32 from by decide, ne_self, clear_and]
    rfl

/-- The floored remainder of two positive words, computed as the truncated remainder with the divisor added where the
    signs differ and the remainder is not zero, is the remainder. -/
theorem floor_rem (u : ArithUnit) {a b : Nat} (d : BitVec 32) (s : BitVec 1) (hd : d = BitVec.ofNat 32 b) (hs : s = 0#1) (ha : a < 2 ^ 31) (h0 : 0 < b) (hb : b < 2 ^ 31) :
    Scalar.select
      (IntOp.andi
        (IntOp.xori (IntOp.cmpi .slt (IntOp.remsi u (BitVec.ofNat 32 a) d) 0#32) s)
        (IntOp.cmpi .ne (IntOp.remsi u (BitVec.ofNat 32 a) d) 0#32))
      (IntOp.addi (IntOp.remsi u (BitVec.ofNat 32 a) d) d)
      (IntOp.remsi u (BitVec.ofNat 32 a) d)
    = BitVec.ofNat 32 (a % b) := by
  subst hd hs
  rw [Routing.remsi_word u ha h0 hb]
  have hm : a % b < 2 ^ 31 := lt_trans (Nat.mod_lt a h0) hb
  rw [show (0#32 : BitVec 32) = BitVec.ofNat 32 0 from rfl, WordCmp.cmpi_slt_ofNat hm (by decide), decide_eq_false (Nat.not_lt_zero _),
    show IntOp.xori (BitVec.ofBool false) 0#1 = 0#1 from by decide, clear_and]
  rfl

/-- The number of a row of a tile: its place in the tile and the tile's offset. -/
theorem tile_row (j i : Nat) : IntOp.addi (BitVec.ofNat 32 j) (Scalar.muli (BitVec.ofNat 32 i) 2048#32) = BitVec.ofNat 32 (i * 2048 + j) := by
  show BitVec.ofNat 32 j + BitVec.ofNat 32 i * BitVec.ofNat 32 2048 = _
  rw [← BitVec.ofNat_mul, ← BitVec.ofNat_add, Nat.add_comm]

/-- The cell number of three coordinates, as a word. -/
def cellWord (a b d : BitVec 32) : BitVec 32 := (a * 32#32 + b) * 32#32 + d

/-- The cell number as a number, for coordinates below 32. -/
theorem cellWord_toNat (a b d : BitVec 32) (ha : a.toNat < 32) (hb : b.toNat < 32) (hd : d.toNat < 32) :
    (cellWord a b d).toNat = (a.toNat * 32 + b.toNat) * 32 + d.toNat := by
  unfold cellWord
  simp only [BitVec.toNat_add, BitVec.toNat_mul, BitVec.toNat_ofNat]
  omega

/-- The sign of a word, as a word. -/
def signWord (a : BitVec 32) : BitVec 32 := if a = 0 then 0 else if BitVec.msb a = true then -1 else 1

/-- The floored quotient of two words as the host computes it. -/
def floorDiv (a s : BitVec 32) : BitVec 32 :=
  Scalar.select (IntOp.andi (IntOp.cmpi .ne (signWord a) (signWord s)) (IntOp.cmpi .ne (IntOp.remsi .host a s) 0#32))
    (IntOp.subi (IntOp.divsi .host a s) 1#32) (IntOp.divsi .host a s)

/-- A number below 32 divided by a positive number: the quotient, below 32. -/
theorem floorDiv_lt (a s : BitVec 32) (ha : a.toNat < 32) (hs : 1 ≤ s.toInt) : (floorDiv a s).toNat < 32 := by
  obtain ⟨x, hx, rfl⟩ : ∃ x, x < 32 ∧ a = BitVec.ofNat 32 x := ⟨a.toNat, ha, (BitVec.ofNat_toNat _ _).symm ▸ by simp⟩
  have hs31 : s.toNat < 2 ^ 31 := by
    have := (WordCmp.toInt_nonneg_iff_lt_half s).mp (by omega)
    exact this
  have hsi : s.toInt = s.toNat := WordCmp.toInt_eq_toNat_of_lt_half hs31
  obtain ⟨y, hy, hy0, rfl⟩ : ∃ y, y < 2 ^ 31 ∧ 0 < y ∧ s = BitVec.ofNat 32 y :=
    ⟨s.toNat, hs31, by omega, by simp⟩
  have key : floorDiv (BitVec.ofNat 32 x) (BitVec.ofNat 32 y) = BitVec.ofNat 32 (x / y) := by
    unfold floorDiv
    rw [Routing.divsi_word .host (by omega) hy0 hy, Routing.remsi_word .host (by omega) hy0 hy]
    rcases Nat.eq_zero_or_pos x with h | h
    · subst h
      rw [Nat.zero_mod, ne_self, and_clear]
      rfl
    · have sg : ∀ z, 0 < z → z < 2 ^ 31 → signWord (BitVec.ofNat 32 z) = 1 := fun z h0 h1 => by
        unfold signWord
        rw [if_neg, if_neg]
        · rw [BitVec.msb_eq_decide, BitVec.toNat_ofNat]
          simp only [decide_eq_true_eq]
          omega
        · intro e
          have := congrArg BitVec.toNat (show BitVec.ofNat 32 z = 0#32 from e)
          simp only [BitVec.toNat_ofNat] at this
          omega
      rw [sg x h (by omega), sg y hy0 hy, ne_self, clear_and]
      rfl
  rw [key, BitVec.toNat_ofNat]
  exact lt_of_le_of_lt (Nat.mod_le _ _) (lt_of_le_of_lt (Nat.div_le_self x y) hx)

end Cert.Words
-- ==== Proof.KernelIdeal.Stage1.lean ====
/-
  The first call, at one grid point: from a block of 512 padded points (coordinates and kernel index, features) and the
  flattened weights, the body stores a 512 by 48 payload and the 512 segment numbers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Tactic

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A store over a whole buffer leaves what it stored. -/
theorem read_store_whole {sp : Space} {S : Shape} {e : EltTy} (v : View sig .tc sp S e) (f : v.ty.Contents (Elt F))
    {off : Fin S.rank → Nat} (h : ∀ a, off a = 0) (inb : ∀ a, off a + S.size a ≤ S.size a) (w : S.Idx → Elt F e) :
    v.read (Elt F) (v.writes (Elt F) f [(⟨Rect.unit off S.size inb, w⟩ : View.Piece (Elt F) S e)]) = w := by
  obtain rfl : off = fun _ => 0 := funext h
  refine (View.read_writes_eq_canon v f _ fun y => ⟨_, List.mem_singleton.mpr rfl, ?_⟩).trans (View.canon_cons_unit_lit inb w [] h)
  refine (Rect.mem_set_unit (inb := inb)).mpr fun a => ?_
  have := (y a).isLt
  exact ⟨Nat.zero_le _, by rw [Nat.zero_add]; exact this⟩

/-- A load of a whole buffer reads all of it. -/
theorem load_whole {S : Shape} {e : EltTy} {off : Fin S.rank → Nat} (h : ∀ a, off a = 0)
    (inb : ∀ a, off a + S.size a ≤ S.size a) (X : S.Idx → Elt F e) : View.ld X (Rect.unit off S.size inb) = X :=
  View.ld_unit_lit inb X h

/-- The payload block: the matrix product in columns 0 to 31, a one in column 32, zeros after it. -/
def payOut (x0 : Vec F S512x5 .i32) (x1 : Vec F S512x32 .f32) (x2 : Vec F S1024x32 .f32) : Vec F S512x48 .f32 :=
  k0_pay1 (iota .tc S512x48 32 [1] iota_S512x48_d1_w32) (k0_pay4 x1 x0 x2) k0_pay5

/-- The block of segment numbers. -/
def keyOut (x0 : Vec F S512x5 .i32) : Vec F S512x1 .i32 := k0_pay2 (k0_pay3 x0)

set_option maxHeartbeats 1000000 in
/-- The body of the first call: its two output blocks end at `payOut` and `keyOut` of the input blocks. -/
theorem stage1_triple (c : Dev nD) (E : Set ℕ) (i : grid0.Coords)
    (arg1 : Memref sig .tc .vmem S512x5 .i32) (harg1 : arg1.IsWhole) (arg2 : Memref sig .tc .vmem S512x32 .f32) (harg2 : arg2.IsWhole)
    (arg3 : Memref sig .tc .vmem S1024x32 .f32) (harg3 : arg3.IsWhole) (arg4 : Memref sig .tc .vmem S512x48 .f32) (harg4 : arg4.IsWhole)
    (arg5 : Memref sig .tc .vmem S512x1 .i32) (harg5 : arg5.IsWhole)
    (x0 : Vec F S512x5 .i32) (x1 : Vec F S512x32 .f32) (x2 : Vec F S1024x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (payOut x0 x1 x2) ∗ owns (c : Thread nD τ) arg5 fullShare (keyOut x0)) -∗ K ⟨⟩))
      ⊢ wp frame (wpE (defs₀ (F := F)) Variants.none c none) E
          (cc0__stage1_body i arg1 harg1 arg2 harg2 arg3 harg3 arg4 harg4 arg5 harg5) K := by
  simp only [cc0__stage1_body_eq_skeleton]; unfold cc0__stage1_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_store_whole _ _ (by decide) _ _).trans ?_
    unfold stage1_triple.sl.v38 stage1_triple.sl.r_1 payOut
    simp only [View.readAt_eq_ld]
    rw [load_whole (by decide), load_whole (by decide), load_whole (by decide)]
  iexists _; isplitr
  swap; · iexact H4
  ipureintro
  refine (read_store_whole _ _ (by decide) _ _).trans ?_
  unfold stage1_triple.sl.r keyOut
  simp only [View.readAt_eq_ld]
  rw [load_whole (by decide)]

end Cert.KernelIdeal.Steps

end
-- ==== Proof.KernelIdeal.Scatter.lean ====
/-
  The second call, at one grid point: the body runs over the block's 512 points and adds the payload row of each into the row
  of the accumulator that the point's segment number names; at the first grid point it clears the accumulator before.
-/
module

public import proofs.«01_k».proof.Proof.KernelIdeal.Stage1
public import Idealize.ShloMosaic.Lib.Pointwise
public import Idealize.ShloMosaic.Lib.WritesUnit
public import Idealize.ShloMosaic.Lib.Affine
public import Idealize.ShloMosaic.Lib.WordCmp
public import Idealize.ShloMosaic.Lib.Pipeline.ValueKit.Tiles

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What point `k` of a block does to the accumulator: its payload row is added into the row its segment number names. -/
def addRow (x0 : Vec F S512x1 .i32) (x1 : Vec F S512x48 .f32) (k : Fin 512) (X : Vec F S32768x48 .f32) : Vec F S32768x48 .f32 :=
  fun y => if (y 0).val = (x0 (ix2 k 0)).toNat then FloatOps.addf (X y) (x1 (ix2 k (y 1))) else X y

/-- What the block's first `n` points do to the accumulator. -/
def addRows (x0 : Vec F S512x1 .i32) (x1 : Vec F S512x48 .f32) (X : Vec F S32768x48 .f32) : ℕ → Vec F S32768x48 .f32
  | 0 => X
  | n + 1 => if h : n < 512 then addRow x0 x1 ⟨n, h⟩ (addRows x0 x1 X n) else addRows x0 x1 X n

/-- The loop runs 512 times. -/
theorem trips_eq : k1_t1_loop.trips = 512 := by decide

/-- The loop's counter at trip `k` is `k`. -/
theorem counter_toNat (k : Fin k1_t1_loop.trips) : (Scf.iv 0#32 1#32 k.val : BitVec 32).toNat = k.val := by
  have hk : k.val < 512 := Nat.lt_of_lt_of_le k.isLt (le_of_eq trips_eq)
  exact Idealize.ShloMosaic.Affine.nat_eq (Idealize.ShloMosaic.Affine.iv (Idealize.ShloMosaic.Affine.ofNat 0 (e := 0) ⟨rfl, by omega⟩) (Idealize.ShloMosaic.Affine.ofNat 1 (e := 1) ⟨rfl, by omega⟩) k.val (e := (k.val : Int)) ⟨by simp, by omega, by omega⟩) _ rfl

/-- The offset of trip `k`'s read of the segment numbers is row `k`. -/
theorem off1_eq (k : Fin k1_t1_loop.trips) : k1_off1 k = ![k.val, 0] :=
  congrArg (fun n => (![n, 0] : Fin 2 → ℕ)) (counter_toNat k)

/-- The offset of trip `k`'s read of the payload block is row `k`. -/
theorem off3_eq (k : Fin k1_t1_loop.trips) : k1_off3 k = ![k.val, 0] :=
  congrArg (fun n => (![n, 0] : Fin 2 → ℕ)) (counter_toNat k)

/-- The word trip `k` reads is the block's segment number `k`. -/
theorem key_read (arg1 : Memref sig .tc .smem S512x1 .i32) (X1 : BufTy.Contents (Elt F) arg1.view.ty) (k : Fin k1_t1_loop.trips) :
    arg1.view.readAt (Elt F) (Rect.unit (s := S512x1) (k1_off1 k) S1x1.size (k1_off1_inb k)).toLoadRect X1 (Shape.Idx.first (numel1_S1x1.symm ▸ Nat.one_pos))
      = arg1.view.read (Elt F) X1 (ix2 ⟨k.val, Nat.lt_of_lt_of_le k.isLt (le_of_eq trips_eq)⟩ 0) := by
  rw [View.readAt_apply]
  refine congrArg _ (funext fun a => Fin.ext ?_)
  have h : k1_off1 k a = (![k.val, 0] : Fin 2 → ℕ) a := congrFun (off1_eq k) a
  refine (Rect.idx_unit_val _ _ _ _ _).trans ?_
  rw [h]
  have h1 : ∀ b : Fin 2, S1x1.size b = 1 := by decide
  have := (Shape.Idx.first (s := S1x1) (numel1_S1x1.symm ▸ Nat.one_pos) a).isLt
  have h2 := h1 a
  revert a
  rw [Fin.forall_fin_two]
  constructor <;> intros <;> simp <;> omega

/-- A segment number below 32768 passes the bounds check. -/
theorem chk_of_lt {w : BitVec 32} (h : w.toNat < 32768) : k1_chk1 w := by
  have e : k1_off2 w = ![w.toNat, 0] := rfl
  unfold k1_chk1
  rw [e]
  exact Fin.forall_fin_two.mpr ⟨by show w.toNat + 1 ≤ 32768; omega, le_of_eq (rfl : 0 + 48 = 48)⟩

/-- The trip's store read back: the payload row `k` is added into the row the segment number names. -/
theorem read_store_row (v : View sig .tc .vmem S32768x48 .f32) (f : v.ty.Contents (Elt F)) (w : BitVec 32) (hw : k1_chk1 w)
    (x0 : Vec F S512x1 .i32) (x1 : Vec F S512x48 .f32) (k : Fin k1_t1_loop.trips) (k' : Fin 512) (hkk : k'.val = k.val)
    (hk : w = x0 (ix2 k' 0)) :
    v.read (Elt F) (v.writes (Elt F) f [(⟨Rect.unit (s := S32768x48) (k1_off2 w) S1x48.size (k1_off2_inb w hw),
        k1_pay2 (View.ld (v.read (Elt F) f) (Rect.unit (s := S32768x48) (k1_off2 w) S1x48.size (k1_off2_inb w hw)))
          (View.ld x1 (Rect.unit (s := S512x48) (k1_off3 k) S1x48.size (k1_off3_inb k)))⟩ : View.Piece (Elt F) S32768x48 .f32)])
      = addRow x0 x1 k' (v.read (Elt F) f) := by
  have e2 : k1_off2 w = ![w.toNat, 0] := rfl
  funext y
  unfold addRow
  rw [← hk]
  by_cases h : (y 0).val = w.toNat
  · rw [if_pos h]
    refine (View.read_writes_cons_rows_of_mem (d := ![32768, 48]) v f (off := k1_off2 w) (size := S1x48.size) (o := w.toNat) (k1_off2_inb w hw) _ [] y
      (ix2 (n0 := 1) (n1 := 48) 0 (y 1)) e2 (by simpa using h) rfl).trans ?_
    have hk2 : k1_pay2 (View.ld (v.read (Elt F) f) (Rect.unit (s := S32768x48) (k1_off2 w) S1x48.size (k1_off2_inb w hw)))
          (View.ld x1 (Rect.unit (s := S512x48) (k1_off3 k) S1x48.size (k1_off3_inb k)))
        = addf (View.ld (v.read (Elt F) f) (Rect.unit (s := S32768x48) (k1_off2 w) S1x48.size (k1_off2_inb w hw)))
          (View.ld x1 (Rect.unit (s := S512x48) (k1_off3 k) S1x48.size (k1_off3_inb k))) := by
      unfold k1_pay2
      rw [shapeCast_self, shapeCast_self]
    refine (congrFun hk2 _).trans ?_
    refine congrArg₂ FloatOps.addf (congrArg (v.read (Elt F) f) (funext fun a => Fin.ext ?_)) (congrArg x1 (funext fun a => Fin.ext ?_))
    · refine (Rect.idx_unit_val _ _ _ _ _).trans ?_
      revert a
      refine Fin.forall_fin_two.mpr ⟨?_, ?_⟩
      · show w.toNat + 0 = (y 0).val; omega
      · show 0 + (y 1).val = (y 1).val; omega
    · refine (Rect.idx_unit_val _ _ _ _ _).trans ?_
      rw [congrFun (off3_eq k) a]
      revert a
      refine Fin.forall_fin_two.mpr ⟨?_, ?_⟩
      · show k.val + 0 = k'.val; omega
      · show 0 + (y 1).val = (y 1).val; omega
  · rw [if_neg h]
    exact View.read_writes_cons_rows_of_not_mem (d := ![32768, 48]) v f (off := k1_off2 w) (size := S1x48.size) (o := w.toNat) (W := 1) (k1_off2_inb w hw) _ [] y
      e2 rfl (by omega)

/-- Before trip `k`: the block is as it was, and the accumulator is the one at entry with the block's first `k` points added. -/
abbrev scatterInv (c : Dev nD) (arg1 : Memref sig .tc .smem S512x1 .i32) (arg2 : Memref sig .tc .vmem S512x48 .f32)
    (arg3 : Memref sig .tc .vmem S32768x48 .f32) (X1 : BufTy.Contents (Elt F) arg1.view.ty) (X2 : BufTy.Contents (Elt F) arg2.view.ty)
    (G : BufTy.Contents (Elt F) arg3.view.ty) (k : ℕ) (_u : PUnit) : sProp 𝕄 :=
  iprop((arg1.view.loc (c : Thread nD τ) ↦[arg1.view.set]{fullShare} X1) ∗ (arg2.view.loc (c : Thread nD τ) ↦[arg2.view.set]{fullShare} X2)
    ∗ (∃ f, (arg3.view.loc (c : Thread nD τ) ↦[arg3.view.set]{fullShare} f)
        ∗ ⌜arg3.view.read (Elt F) f = addRows (arg1.view.read (Elt F) X1) (arg2.view.read (Elt F) X2) (arg3.view.read (Elt F) G) k⌝))

set_option warn.classDefReducibility false in
set_option maxHeartbeats 1000000 in
/-- The loop keeps `scatterInv`, provided every segment number of the block names a row of the accumulator. -/
@[sl_loop] def scatterLoop (𝒱 : Variants) (c : Dev nD) (bd : Option 𝒱.V) (E : Set ℕ) (i : grid1.Coords)
    (arg1 : Memref sig .tc .smem S512x1 .i32) (harg1 : arg1.IsWhole) (arg2 : Memref sig .tc .vmem S512x48 .f32) (harg2 : arg2.IsWhole)
    (arg3 : Memref sig .tc .vmem S32768x48 .f32) (harg3 : arg3.IsWhole) (X1 : BufTy.Contents (Elt F) arg1.view.ty)
    (X2 : BufTy.Contents (Elt F) arg2.view.ty) (G : BufTy.Contents (Elt F) arg3.view.ty)
    (hkey : ∀ (kq : ℕ) (hkq : kq < k1_t1_loop.trips), k1_chk1 (arg1.view.readAt (Elt F) (Rect.unit (s := S512x1) (k1_off1 ⟨kq, hkq⟩) S1x1.size (k1_off1_inb ⟨kq, hkq⟩)).toLoadRect X1 (Shape.Idx.first (numel1_S1x1.symm ▸ Nat.one_pos)))) :
    Idealize.ShloMosaic.LoopInv (M := 𝕄) Idealize.ShloMosaic.frame (wpE defs₀ 𝒱 (c : Thread nD τ) bd) E
      k1_t1_loop.lb k1_t1_loop.ub k1_t1_loop.st k1_t1_ok () (k1_t1_body (F := F) i arg1 harg1 arg2 harg2 arg3 harg3) where
  inv := scatterInv (F := F) c arg1 arg2 arg3 X1 X2 G
  step k acc := by
    have k1_hw1 := hkey k.val k.isLt
    unfold k1_t1_body
    iintro ⟨H1, H2, ⟨%f, H3, %hf⟩⟩
    sl_exec
    sl_step
    isplitl [H1]; · iexact H1
    isplitl [H2]; · iexact H2
    iexists _; isplitl [H3]; · iexact H3
    ipureintro
    have hk : k.val < 512 := Nat.lt_of_lt_of_le k.isLt (le_of_eq trips_eq)
    refine (read_store_row (F := F) arg3.view f _ k1_hw1 (arg1.view.read (Elt F) X1) (arg2.view.read (Elt F) X2) k ⟨k.val, hk⟩ rfl
      (key_read arg1 X1 k)).trans ?_
    rw [hf]
    show _ = if h : k.val < 512 then addRow _ _ ⟨k.val, h⟩ _ else _
    rw [dif_pos hk]

/-- The test of the body's conditional, from the grid point. -/
abbrev firstTest (i : grid1.Coords) : Prop :=
  (Scalar.cmpi .ne (Scalar.extui (Scalar.cmpi .eq (BitVec.ofNat 32 (i 0).val) 0#32)) 0#32) = 1#1

/-- The test holds at the first grid point alone. -/
theorem firstTest_iff (t : Fin grid1.N) : firstTest (grid1.coords t) ↔ t.val = 0 := by
  have hN : grid1.N = 391 := N_1
  have ht : t.val < 391 := lt_of_lt_of_eq t.isLt hN
  have e0 : (grid1.coords t 0).val = t.val / 1 % 391 := Pipeline.Grid.coords_val t 0 (by decide) rfl
  have e1 : t.val / 1 % 391 = t.val := by omega
  simp only [firstTest, e0, e1]
  word_cmp

set_option maxHeartbeats 1000000 in
/-- The body at the first grid point: the accumulator ends at the block's points added to zeros. -/
theorem scatter_first (c : Dev nD) (E : Set ℕ) (i : grid1.Coords) (hc0 : firstTest i)
    (arg1 : Memref sig .tc .smem S512x1 .i32) (harg1 : arg1.IsWhole) (arg2 : Memref sig .tc .vmem S512x48 .f32) (harg2 : arg2.IsWhole)
    (arg3 : Memref sig .tc .vmem S32768x48 .f32) (harg3 : arg3.IsWhole)
    (x0 : Vec F S512x1 .i32) (x1 : Vec F S512x48 .f32) (hx : ∀ k : Fin 512, (x0 (ix2 k 0)).toNat < 32768) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (addRows x0 x1 (k1_pay1 (F := F)) 512)) -∗ K ⟨⟩))
      ⊢ wp frame (wpE (defs₀ (F := F)) Variants.none c none) E
          (cc1__scatter_body i arg1 harg1 arg2 harg2 arg3 harg3) K := by
  simp only [cc1__scatter_body_eq_skeleton]; unfold cc1__scatter_body_skel
  unfold owns
  iintro ⟨⟨%f0, %hf0, H0⟩, ⟨%f1, %hf1, H1⟩, ⟨%d2, %f2, -, H2⟩, Hk⟩
  subst hf0 hf1
  have hkey : ∀ (kq : ℕ) (hkq : kq < k1_t1_loop.trips), k1_chk1 (arg1.view.readAt (Elt F) (Rect.unit (s := S512x1) (k1_off1 ⟨kq, hkq⟩) S1x1.size (k1_off1_inb ⟨kq, hkq⟩)).toLoadRect f0 (Shape.Idx.first (numel1_S1x1.symm ▸ Nat.one_pos))) :=
    fun kq hkq => by rw [key_read]; exact chk_of_lt (hx _)
  sl_exec (disch := first | sl_exact hc0 | sl_exact hkey)
  sl_step
  iapply Hk
  isplitl [H0]
  · iexists f0; isplitr; · ipureintro; rfl
    iexact H0
  isplitl [H1]
  · iexists f1; isplitr; · ipureintro; rfl
    iexact H1
  iexists fL0
  isplitr
  · ipureintro
    refine hL3.trans ?_
    unfold scatter_first.sl.H2_1; rw [read_store_whole _ _ (by decide)]
    exact congrArg _ trips_eq
  iexact H2

set_option maxHeartbeats 1000000 in
/-- The body at a later grid point: the block's points are added to the accumulator. -/
theorem scatter_later (c : Dev nD) (E : Set ℕ) (i : grid1.Coords) (hc0 : ¬ firstTest i)
    (arg1 : Memref sig .tc .smem S512x1 .i32) (harg1 : arg1.IsWhole) (arg2 : Memref sig .tc .vmem S512x48 .f32) (harg2 : arg2.IsWhole)
    (arg3 : Memref sig .tc .vmem S32768x48 .f32) (harg3 : arg3.IsWhole)
    (x0 : Vec F S512x1 .i32) (x1 : Vec F S512x48 .f32) (x2 : Vec F S32768x48 .f32) (hx : ∀ k : Fin 512, (x0 (ix2 k 0)).toNat < 32768)
    (K : PUnit → sProp 𝕄) :
    iprop(owns (c : Thread nD τ) arg1 fullShare x0 ∗ owns (c : Thread nD τ) arg2 fullShare x1 ∗ owns (c : Thread nD τ) arg3 fullShare x2
        ∗ (iprop(owns (c : Thread nD τ) arg1 fullShare x0 ∗ owns (c : Thread nD τ) arg2 fullShare x1
            ∗ owns (c : Thread nD τ) arg3 fullShare (addRows x0 x1 x2 512)) -∗ K ⟨⟩))
      ⊢ wp frame (wpE (defs₀ (F := F)) Variants.none c none) E
          (cc1__scatter_body i arg1 harg1 arg2 harg2 arg3 harg3) K := by
  simp only [cc1__scatter_body_eq_skeleton]; unfold cc1__scatter_body_skel
  unfold owns
  iintro ⟨⟨%f0, %hf0, H0⟩, ⟨%f1, %hf1, H1⟩, ⟨%f2, %hf2, H2⟩, Hk⟩
  subst hf0 hf1 hf2
  have hkey : ∀ (kq : ℕ) (hkq : kq < k1_t1_loop.trips), k1_chk1 (arg1.view.readAt (Elt F) (Rect.unit (s := S512x1) (k1_off1 ⟨kq, hkq⟩) S1x1.size (k1_off1_inb ⟨kq, hkq⟩)).toLoadRect f0 (Shape.Idx.first (numel1_S1x1.symm ▸ Nat.one_pos))) :=
    fun kq hkq => by rw [key_read]; exact chk_of_lt (hx _)
  sl_exec (disch := first | sl_exact hc0 | sl_exact hkey)
  sl_step
  iapply Hk
  isplitl [H0]
  · iexists f0; isplitr; · ipureintro; rfl
    iexact H0
  isplitl [H1]
  · iexists f1; isplitr; · ipureintro; rfl
    iexact H1
  iexists fL0
  isplitr
  · ipureintro
    refine hL3.trans ?_

    exact congrArg _ trips_eq
  iexact H2

end Cert.KernelIdeal.Steps

end
-- ==== Proof.KernelIdeal.Merge.lean ====
/-
  The third call, at one grid point: from 2048 rows of the accumulated payloads, the body stores their first 32 columns and,
  for the rows that some point fell into, the coordinates the row's number stands for.
-/
module

public import proofs.«01_k».proof.Proof.KernelIdeal.Stage1

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of summed features: the first 32 columns. -/
def flatOut (x0 : Vec F S2048x48 .f32) : Vec F S2048x32 .f32 := k2_pay3 x0

/-- The block of coordinates: each row's number taken apart in base 32 where the row's count is above one half, zeros elsewhere. -/
def coordOut (i : grid2.Coords) (x0 : Vec F S2048x48 .f32) : Vec F S2048x4 .i32 :=
  k2_pay1 (k2_pay4 x0) (k2_pay6 i) (k2_pay10 (k2_pay5 i) 32#32 (k2_pay7 i) (k2_pay8 i) (k2_pay9 i)) 32#32
    (k2_pay11 (k2_pay5 i)) (k2_pay12 (k2_pay5 i)) (k2_pay13 (k2_pay5 i)) k2_pay14

set_option maxHeartbeats 1000000 in
/-- The body of the third call: its two output blocks end at `flatOut` and `coordOut` of the input block. -/
theorem merge_triple (c : Dev nD) (E : Set ℕ) (i : grid2.Coords)
    (arg1 : Memref sig .tc .vmem S2048x48 .f32) (harg1 : arg1.IsWhole) (arg2 : Memref sig .tc .vmem S2048x32 .f32) (harg2 : arg2.IsWhole)
    (arg3 : Memref sig .tc .vmem S2048x4 .i32) (harg3 : arg3.IsWhole) (x0 : Vec F S2048x48 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (flatOut x0)
            ∗ owns (c : Thread nD τ) arg3 fullShare (coordOut i x0)) -∗ K ⟨⟩))
      ⊢ wp frame (wpE (defs₀ (F := F)) Variants.none c none) E (cc2__merge_body i arg1 harg1 arg2 harg2 arg3 harg3) K := by
  simp only [cc2__merge_body_eq_skeleton]; unfold cc2__merge_body_skel
  simp only [k2_part1_eq_skeleton, k2_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (read_store_whole _ _ (by decide) _ _).trans ?_
    unfold flatOut
    simp only [View.readAt_eq_ld]
    rw [load_whole (by decide)]
  iexists _; isplitr
  swap; · iexact H2
  ipureintro
  refine (read_store_whole _ _ (by decide) _ _).trans ?_
  unfold merge_triple.sl.r merge_triple.sl.r_1 merge_triple.sl.r_2 merge_triple.sl.r_3 merge_triple.sl.r_4 coordOut
  simp only [View.readAt_eq_ld]
  rw [load_whole (by decide)]

end Cert.KernelIdeal.Steps

end
-- ==== Proof.KernelIdeal.Data.lean ====
/-
  What each of the three calls finds and leaves, point by point: the proof data of the three pipelines, from the contents of
  the buffers at entry, and the body's promise at every grid point.
-/
module

public import proofs.«01_k».proof.Proof.KernelIdeal.Stage1
public import proofs.«01_k».proof.Proof.KernelIdeal.Scatter
public import proofs.«01_k».proof.Proof.KernelIdeal.Merge
public import Idealize.ShloMosaic.Lib.Pipeline.Frame
public import Idealize.ShloMosaic.Lib.Pipeline.FrameBody

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : Dev nD → Valuation τ sig (Elt F))

/-! ## Call 0 -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What call 0 finds and leaves: the arrays at entry, and each window's buffer after the body at point `t`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => payOut (iblk0 V c 0 t) (iblk0 V c 1 t) (iblk0 V c 2 t)
    | ⟨4, _⟩ => keyOut (iblk0 V c 0 t)
  Φ _ := Pipeline.ΦA spec0 c
  q _ := fullShare
  owed _ := 0

/-- The arrays of the first call at entry are the buffers' contents. -/
theorem A_eq0 (c : Dev nD) (w : Fin cfg0.W) : (dat0 V c).A w = V c (Pipeline.arrRef spec0 w) := by
  dsimp only [dat0]

/-- A step of the first call leaves its block of the table as it was. -/
theorem after0_0 (c : Dev nD) (t : Fin cfg0.N) : (dat0 V c).after 0 t = iblk0 V c 0 t := by dsimp only [dat0]
/-- A step of the first call leaves its block of the features as it was. -/
theorem after0_1 (c : Dev nD) (t : Fin cfg0.N) : (dat0 V c).after 1 t = iblk0 V c 1 t := by dsimp only [dat0]
/-- A step of the first call leaves its block of the stacked matrices as it was. -/
theorem after0_2 (c : Dev nD) (t : Fin cfg0.N) : (dat0 V c).after 2 t = iblk0 V c 2 t := by dsimp only [dat0]
/-- A step of the first call writes this block of the payload. -/
theorem after0_3 (c : Dev nD) (t : Fin cfg0.N) : (dat0 V c).after 3 t = payOut (iblk0 V c 0 t) (iblk0 V c 1 t) (iblk0 V c 2 t) := by dsimp only [dat0]
/-- A step of the first call writes this block of the keys. -/
theorem after0_4 (c : Dev nD) (t : Fin cfg0.N) : (dat0 V c).after 4 t = keyOut (iblk0 V c 0 t) := by dsimp only [dat0]

/-- Input window 0's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body's triple at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (stage1_triple c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The label of the first call's body, at a step, stands for the body. -/
theorem defs₀_row0 (t : Fin cfg0.N) : defs₀ (F := F) .tc cfg0.body (cfg0.bodyArgs t (cfg0.slots t)) = bodyAt0 t := by
  unfold defs₀; rw [Defs.onTc_tc]

/-- The body keeps its promise at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Call 1 -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the first `n` grid points. -/
def accAt (c : Dev nD) : ℕ → Vec F S32768x48 .f32
  | 0 => k1_pay1
  | n + 1 => if h : n < cfg1.N then addRows (iblk1 V c 0 ⟨n, h⟩) (iblk1 V c 1 ⟨n, h⟩) (accAt c n) 512 else accAt c n

/-- What call 1 finds and leaves: the arrays at entry, and each window's buffer after the body at point `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c (t.val + 1)
  Φ _ := Pipeline.ΦA spec1 c
  q _ := fullShare
  owed _ := 0

/-- The arrays of the second call at entry are the buffers' contents. -/
theorem A_eq1 (c : Dev nD) (w : Fin cfg1.W) : (dat1 V c).A w = V c (Pipeline.arrRef spec1 w) := by
  dsimp only [dat1]

/-- A step of the second call leaves its block of the keys as it was. -/
theorem after1_0 (c : Dev nD) (t : Fin cfg1.N) : (dat1 V c).after 0 t = iblk1 V c 0 t := by dsimp only [dat1]
/-- A step of the second call leaves its block of the payload as it was. -/
theorem after1_1 (c : Dev nD) (t : Fin cfg1.N) : (dat1 V c).after 1 t = iblk1 V c 1 t := by dsimp only [dat1]
/-- A step of the second call writes this block of the accumulator. -/
theorem after1_2 (c : Dev nD) (t : Fin cfg1.N) : (dat1 V c).after 2 t = accAt V c (t.val + 1) := by dsimp only [dat1]

/-- Input window 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- At a later point the accumulator's buffer holds what the point before left. -/
theorem before1_2 (c : Dev nD) (t : Fin cfg1.N) (ht : t.val ≠ 0) (d) : (dat1 V c).before 2 t d = accAt V c t.val := by
  have hN : t.val < 391 := lt_of_lt_of_eq t.isLt (show cfg1.N = 391 from N_1)
  refine ((dat1 V c).before_out_kept 2 rfl t ht ?_ (fun _ => rfl) (fun _ _ => rfl) d).trans ?_
  · refine Bool.eq_false_iff.mpr fun h => ?_
    have := (flush1_2 _).mp h
    dsimp only at this
    omega
  · rw [after1_2]
    exact congrArg (accAt V c) (Nat.sub_add_cancel (Nat.pos_of_ne_zero ht))

/-- The accumulator after a grid point. -/
theorem accAt_succ (c : Dev nD) (t : Fin cfg1.N) : accAt V c (t.val + 1) = addRows (iblk1 V c 0 t) (iblk1 V c 1 t) (accAt V c t.val) 512 := by
  show (if h : t.val < cfg1.N then addRows (iblk1 V c 0 ⟨t.val, h⟩) (iblk1 V c 1 ⟨t.val, h⟩) (accAt V c t.val) 512 else _) = _
  rw [dif_pos t.isLt]

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body's triple at any grid point. -/
theorem sound_body1 (hx : ∀ c t k, (iblk1 V c 0 t (ix2 k 0)).toNat < 32768) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [accAt_succ]
  by_cases h0 : t.val = 0
  · rw [show accAt V c t.val = k1_pay1 from by rw [h0]; rfl]
    iintro ⟨HΦ, Ho, ⟨%d0, H0⟩, ⟨%d1, H1⟩, ⟨%d2, H2⟩⟩
    iapply (scatter_first c Set.univ (grid1.coords t) ((firstTest_iff t).mpr h0) _ _ _ _ _ _ (iblk1 V c 0 t) (iblk1 V c 1 t) (hx c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2 V c t h0]
    iintro ⟨HΦ, Ho, ⟨%d0, H0⟩, ⟨%d1, H1⟩, ⟨%d2, H2⟩⟩
    iapply (scatter_later c Set.univ (grid1.coords t) (fun h => h0 ((firstTest_iff t).mp h)) _ _ _ _ _ _ (iblk1 V c 0 t) (iblk1 V c 1 t) (accAt V c t.val) (hx c t) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The label of the second call's body, at a step, stands for the body. -/
theorem defs₀_row1 (t : Fin cfg1.N) : defs₀ (F := F) .tc cfg1.body (cfg1.bodyArgs t (cfg1.slots t)) = bodyAt1 t := by
  unfold defs₀; rw [Defs.onTc_tc]

/-- The body keeps its promise at every grid point. -/
theorem body_obligation1 (hx : ∀ c t k, (iblk1 V c 0 t (ix2 k 0)).toNat < 32768) (c : Dev nD) : BodyObligation (dat1 (F := F) V c) (defs₀ (F := F)) Variants.none () Set.univ := fun t => by
  rw [bigSep_W1, bigSep_W1, defs₀_row1]
  exact triple_restated (sound_body1 V hx c t) rfl .rfl fun _ => .rfl

/-! ## Call 2 -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What call 2 finds and leaves: the arrays at entry, and each window's buffer after the body at point `t`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => flatOut (iblk2 V c 0 t)
    | ⟨2, _⟩ => coordOut (grid2.coords t) (iblk2 V c 0 t)
  Φ _ := Pipeline.ΦA spec2 c
  q _ := fullShare
  owed _ := 0

/-- The arrays of the third call at entry are the buffers' contents. -/
theorem A_eq2 (c : Dev nD) (w : Fin cfg2.W) : (dat2 V c).A w = V c (Pipeline.arrRef spec2 w) := by
  dsimp only [dat2]

/-- A step of the third call leaves its block of the accumulator as it was. -/
theorem after2_0 (c : Dev nD) (t : Fin cfg2.N) : (dat2 V c).after 0 t = iblk2 V c 0 t := by dsimp only [dat2]
/-- A step of the third call writes this block of the first result. -/
theorem after2_1 (c : Dev nD) (t : Fin cfg2.N) : (dat2 V c).after 1 t = flatOut (iblk2 V c 0 t) := by dsimp only [dat2]
/-- A step of the third call writes this block of the second result. -/
theorem after2_2 (c : Dev nD) (t : Fin cfg2.N) : (dat2 V c).after 2 t = coordOut (grid2.coords t) (iblk2 V c 0 t) := by dsimp only [dat2]

/-- Input window 0's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body's triple at any grid point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (merge_triple c Set.univ (grid2.coords t) _ _ _ _ _ _ (iblk2 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The label of the third call's body, at a step, stands for the body. -/
theorem defs₀_row2 (t : Fin cfg2.N) : defs₀ (F := F) .tc cfg2.body (cfg2.bodyArgs t (cfg2.slots t)) = bodyAt2 t := by
  unfold defs₀; rw [Defs.onTc_tc]

/-- The body keeps its promise at every grid point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Steps

end
-- ==== Proof.KernelIdeal.Run.lean ====
/-
  The whole program's run: seven host stretches, then the three calls, each entered from the buffers as the item before left
  them. From it: the program terminates, its arguments end unchanged, its counters end at zero, and its two results are what
  the third call leaves.
-/
module

public import proofs.«01_k».proof.Proof.KernelIdeal.Data
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The buffers after the first call. -/
def W8 (c : Dev nD) : Valuation τ sig (Elt F) := afterRegion (dat0 (V7 m) c) (V7 m c)
/-- The buffers after the second call. -/
def W9 (c : Dev nD) : Valuation τ sig (Elt F) := afterRegion (dat1 (W8 m) c) (W8 m c)
/-- The buffers after the third call. -/
def W10 (c : Dev nD) : Valuation τ sig (Elt F) := afterRegion (dat2 (W9 m) c) (W9 m c)

/-- The three calls' proof data. -/
abbrev pdats : (p : Fin 3) → (c : Dev nD) → Dat τ (Elt F) Unit ℕ (UR sig nD τ) ℕ (cfgs p) c
  | ⟨0, _⟩ => fun c => dat0 (V7 m) c
  | ⟨1, _⟩ => fun c => dat1 (W8 m) c
  | ⟨2, _⟩ => fun c => dat2 (W9 m) c
  | ⟨_ + 3, h⟩ => absurd h (Nat.not_lt.2 (Nat.le_add_left _ _))

/-- The cells that waits may name: the TensorCores'. -/
abbrev L : GSem nD τ sig → Finset Unit := fun g => if g.1.2 = .tc then {()} else ∅
/-- All at one level. -/
abbrev lv : GSem nD τ sig → Unit → ℕ := fun _ _ => 0
/-- A core owes nothing throughout. -/
abbrev owesNone : Dev nD → CellTallies nD τ sig Unit := fun _ => 0
/-- The generator register, at any contents. -/
abbrev prng (c : Dev nD) : sProp 𝕄 := iprop(∃ r, prngReg c r)
/-- What rides beside the buffers between items. -/
abbrev rest (_ : Fin 4) (c : Dev nD) : sProp 𝕄 := iprop((∃ W, owes (c : Thread nD τ) (owesNone c) W) ∗ prng c ∗ emp)

/-- The calls' counters are ordered below what each call waits for. -/
theorem levelCut (p : Fin 3) : Pipeline.LevelCut (pcfgs (F := F)) adm () L lv p owesNone fun _ => 0 where
  hι c w s := by simp [L]
  hιb _ _ _ := le_rfl
  hD _ _ _ h := absurd h (lt_irrefl 0)

/-- Call 0 as a segment of the program. -/
def reg0 : RegionSeg (pcfgs (F := F)) adm (pdats m) () defs₀ Variants.none L lv 0 :=
  RegionSeg.ofHeldIn (pcfgs (F := F)) adm (pdats m) () defs₀ Variants.none L lv 0 owesNone (Pipeline.ucRefs τ sig) prng prng launch0.toP rfl
    (fun c => (body_obligation0 (V7 m) c).loose) (fun _ _ => rfl) (fun _ => rfl) (fun c => (dat0 (V7 m) c).share_full fun _ => rfl)
    (fun _ => .rfl) (fun _ => .rfl) (fun _ => 0) (levelCut 0) (fun _ => iprop(emp)) (V7 m)
    (fun c w => A_eq0 (V7 m) c w)

/-- Call 1 as a segment of the program. -/
def reg1 (hx : ∀ c t k, (iblk1 (W8 m) c 0 t (ix2 k 0)).toNat < 32768) : RegionSeg (pcfgs (F := F)) adm (pdats m) () defs₀ Variants.none L lv 1 :=
  RegionSeg.ofHeldIn (pcfgs (F := F)) adm (pdats m) () defs₀ Variants.none L lv 1 owesNone (Pipeline.ucRefs τ sig) prng prng launch1.toP rfl
    (fun c => (body_obligation1 (W8 m) hx c).loose) (fun _ _ => rfl) (fun _ => rfl) (fun c => (dat1 (W8 m) c).share_full fun _ => rfl)
    (fun _ => .rfl) (fun _ => .rfl) (fun _ => 0) (levelCut 1) (fun _ => iprop(emp)) (W8 m)
    (fun c w => A_eq1 (W8 m) c w)

/-- Call 2 as a segment of the program. -/
def reg2 : RegionSeg (pcfgs (F := F)) adm (pdats m) () defs₀ Variants.none L lv 2 :=
  RegionSeg.ofHeldIn (pcfgs (F := F)) adm (pdats m) () defs₀ Variants.none L lv 2 owesNone (Pipeline.ucRefs τ sig) prng prng launch2.toP rfl
    (fun c => (body_obligation2 (W9 m) c).loose) (fun _ _ => rfl) (fun _ => rfl) (fun c => (dat2 (W9 m) c).share_full fun _ => rfl)
    (fun _ => .rfl) (fun _ => .rfl) (fun _ => 0) (levelCut 2) (fun _ => iprop(emp)) (W9 m)
    (fun c w => A_eq2 (W9 m) c w)

/-- The arrays of the first call are buffers that outlive the calls. -/
theorem arrs0 : Pipeline.arrRefs (τ := τ) (pcfgs (F := F) 0).spec ⊆ Pipeline.ucRefs τ sig :=
  Pipeline.arrRefs_sub_ucRefs spec0 (show ∀ w, (Pipeline.arrRef spec0 w).isScoped = false by decide)
/-- The arrays of the second call are buffers that outlive the calls. -/
theorem arrs1 : Pipeline.arrRefs (τ := τ) (pcfgs (F := F) 1).spec ⊆ Pipeline.ucRefs τ sig :=
  Pipeline.arrRefs_sub_ucRefs spec1 (show ∀ w, (Pipeline.arrRef spec1 w).isScoped = false by decide)
/-- The arrays of the third call are buffers that outlive the calls. -/
theorem arrs2 : Pipeline.arrRefs (τ := τ) (pcfgs (F := F) 2).spec ⊆ Pipeline.ucRefs τ sig :=
  Pipeline.arrRefs_sub_ucRefs spec2 (show ∀ w, (Pipeline.arrRef spec2 w).isScoped = false by decide)

/-- Call 0 is entered from the buffers as the item before left them. -/
theorem pre0 (c : Dev nD) : iprop(StableHlo.held (c : Thread nD τ) (Pipeline.ucRefs τ sig) (V7 m c) ∗ rest 0 c) ⊢ (reg0 m).pre c := by
  unfold reg0
  exact RegionSeg.ofHeldIn_pre (pcs := pcfgs (F := F)) (a := adm) (pdats := pdats m) (ι := ()) (defs₀ := defs₀) (𝒱₀ := Variants.none) (L := L) (lv := lv) (p := 0) (D := owesNone)
    (X := prng) (Y := prng) (R := fun _ => iprop(emp)) (W := V7 m) arrs0 c

/-- Call 0 leaves the buffers with its arrays as its points left them. -/
theorem post0 (c : Dev nD) : (reg0 m).post c ⊢ iprop(StableHlo.held (c : Thread nD τ) (Pipeline.ucRefs τ sig) (W8 m c) ∗ rest 0 c) := by
  unfold reg0
  exact RegionSeg.ofHeldIn_post (pcs := pcfgs (F := F)) (a := adm) (pdats := pdats m) (ι := ()) (defs₀ := defs₀) (𝒱₀ := Variants.none) (L := L) (lv := lv) (p := 0) (D := owesNone)
    (X := prng) (Y := prng) (R := fun _ => iprop(emp)) (W := V7 m) arrs0 c

/-- Call 1 is entered from the buffers as the item before left them. -/
theorem pre1 (hx : ∀ c t k, (iblk1 (W8 m) c 0 t (ix2 k 0)).toNat < 32768) (c : Dev nD) : iprop(StableHlo.held (c : Thread nD τ) (Pipeline.ucRefs τ sig) (W8 m c) ∗ rest 0 c) ⊢ (reg1 m hx).pre c := by
  unfold reg1
  exact RegionSeg.ofHeldIn_pre (pcs := pcfgs (F := F)) (a := adm) (pdats := pdats m) (ι := ()) (defs₀ := defs₀) (𝒱₀ := Variants.none) (L := L) (lv := lv) (p := 1) (D := owesNone)
    (X := prng) (Y := prng) (R := fun _ => iprop(emp)) (W := W8 m) arrs1 c

/-- Call 1 leaves the buffers with its arrays as its points left them. -/
theorem post1 (hx : ∀ c t k, (iblk1 (W8 m) c 0 t (ix2 k 0)).toNat < 32768) (c : Dev nD) : (reg1 m hx).post c ⊢ iprop(StableHlo.held (c : Thread nD τ) (Pipeline.ucRefs τ sig) (W9 m c) ∗ rest 0 c) := by
  unfold reg1
  exact RegionSeg.ofHeldIn_post (pcs := pcfgs (F := F)) (a := adm) (pdats := pdats m) (ι := ()) (defs₀ := defs₀) (𝒱₀ := Variants.none) (L := L) (lv := lv) (p := 1) (D := owesNone)
    (X := prng) (Y := prng) (R := fun _ => iprop(emp)) (W := W8 m) arrs1 c

/-- Call 2 is entered from the buffers as the item before left them. -/
theorem pre2 (c : Dev nD) : iprop(StableHlo.held (c : Thread nD τ) (Pipeline.ucRefs τ sig) (W9 m c) ∗ rest 0 c) ⊢ (reg2 m).pre c := by
  unfold reg2
  exact RegionSeg.ofHeldIn_pre (pcs := pcfgs (F := F)) (a := adm) (pdats := pdats m) (ι := ()) (defs₀ := defs₀) (𝒱₀ := Variants.none) (L := L) (lv := lv) (p := 2) (D := owesNone)
    (X := prng) (Y := prng) (R := fun _ => iprop(emp)) (W := W9 m) arrs2 c

/-- Call 2 leaves the buffers with its arrays as its points left them. -/
theorem post2 (c : Dev nD) : (reg2 m).post c ⊢ iprop(StableHlo.held (c : Thread nD τ) (Pipeline.ucRefs τ sig) (W10 m c) ∗ rest 0 c) := by
  unfold reg2
  exact RegionSeg.ofHeldIn_post (pcs := pcfgs (F := F)) (a := adm) (pdats := pdats m) (ι := ()) (defs₀ := defs₀) (𝒱₀ := Variants.none) (L := L) (lv := lv) (p := 2) (D := owesNone)
    (X := prng) (Y := prng) (R := fun _ => iprop(emp)) (W := W9 m) arrs2 c

/-- No call writes an argument. -/
theorem W10_arg (c : Dev nD) (r : Ref sig .tc) (h0 : ∀ w, Pipeline.arrRef spec0 w = r → (cfg0.win w).isOut = false)
    (h1 : ∀ w, Pipeline.arrRef spec1 w = r → (cfg1.win w).isOut = false) (h2 : ∀ w, Pipeline.arrRef spec2 w = r → (cfg2.win w).isOut = false) :
    W10 m c r = V7 m c r := by
  exact (Pipeline.afterRegion_keeps _ _ winFacts2.arr_inj (A_eq2 (W9 m) c) r h2).trans
    ((Pipeline.afterRegion_keeps _ _ winFacts1.arr_inj (A_eq1 (W8 m) c) r h1).trans (Pipeline.afterRegion_keeps _ _ winFacts0.arr_inj (A_eq0 (V7 m) c) r h0))

/-- No host stretch writes a buffer outside the list of those it writes. -/
theorem V7_arg (c : Dev nD) (r : Ref sig .tc) (h : r ∉ hostOps0_W ++ hostOps0_1_W ++ hostOps0_2_W ++ hostOps0_3_W ++ hostOps0_4_W ++ hostOps0_5_W ++ hostOps0_6_W) :
    V7 m c r = m ((c : Thread nD τ).loc r) := by
  simp only [List.mem_append, not_or] at h
  obtain ⟨⟨⟨⟨⟨⟨h0, h1⟩, h2⟩, h3⟩, h4⟩, h5⟩, h6⟩ := h
  rw [V7_of m c r h6, V6_of m c r h5, V5_of m c r h4, V4_of m c r h3, V3_of m c r h2, V2_of m c r h1, V1_of m c r h0]

/-- What a core holds after the last call, read as the end of the run. -/
theorem post_end (c : Dev nD) : iprop(StableHlo.held (c : Thread nD τ) (Pipeline.ucRefs τ sig) (W10 m c) ∗ ((∃ Wd, owes (c : Thread nD τ) (owesNone c) Wd) ∗ prng c ∗ emp))
    ⊢ iprop((StableHlo.held (c : Thread nD τ) (Pipeline.ucRefs τ sig) (W10 m c) ∗ prng c) ∗ (∃ Wd, owes (c : Thread nD τ) (owesNone c) Wd) : sProp 𝕄) := by
  iintro ⟨Hh, HO, Hp, -⟩
  isplitr [HO]
  · isplitl [Hh]; · iexact Hh
    iexact Hp
  · iexact HO

/-- The launch's tokens. -/
abbrev u₀ : UR sig nD τ := initOf (Pipeline.cells cfgs cellOf_inj) (Pipeline.launchToks cfgs cellOf_inj)

/-- The tokens are the pipelines' own, and nothing besides. -/
theorem u₀_own : (ownU u₀ : sProp 𝕄) ⊢ iprop(|={Set.univ}=> (BI.own (emb₁ u₀) ∗ bigSep Finset.univ (fun _ : Dev nD => (BI.emp : sProp 𝕄)))) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- What the run ends with, read from the memory. -/
theorem read_end (c : Dev nD) (s' : Phys nD τ sig (Elt F)) :
    iprop((StableHlo.held (c : Thread nD τ) (Pipeline.ucRefs τ sig) (W10 m c) ∗ prng c) ∗ SI s')
    ⊢ iprop(|={Set.univ}=> (⌜∀ b : Ref sig .tc, (Proc.devRef .tc b : DevRef τ sig) ∈ Pipeline.ucRefs τ sig → s'.mem.mem ((c : Thread nD τ).loc b) = W10 m c (Proc.devRef .tc b)⌝ ∗ SI s') : sProp 𝕄) := by
  unfold StableHlo.held
  iintro ⟨⟨Hh, -⟩, HSI⟩
  ihave Hr := (pointsTo_read_all (Pipeline.ucRefs τ sig) (fun b => ((c : Thread nD τ).1, b)) (W10 m c) s') $$ [Hh HSI]
  · isplitl [Hh] <;> iassumption
  icases Hr with ⟨%h, HSI⟩
  imodintro
  isplitr
  · ipureintro; exact fun b hb => h _ hb
  · iexact HSI

/-- What the launch hands a core, as the start of its list. -/
theorem start_of (ρ : Dev nD → PrngReg) (c : Dev nD) :
    iprop((unscopedBufs c (fun b => m ((c.tc : Thread nD τ).loc b)) ∗ unscopedSems0 c ∗ owes (c.tc : Thread nD τ) ((0 : Dev nD → CellTallies nD τ sig Unit) c) ∅ ∗ Pipeline.launchCred (0 : Dev nD → CellTallies nD τ sig Unit) c ∗ prngReg c (ρ c) ∗ emp) ∗ levAts L lv)
    ⊢ iprop(|={Set.univ}=> (StableHlo.held (c : Thread nD τ) (Pipeline.ucRefs τ sig) (V0 m c) ∗ rest 0 c) : sProp 𝕄) := by
  rw [show unscopedBufs c (fun b => m ((c : Thread nD τ).loc b)) = (StableHlo.held (c : Thread nD τ) (Pipeline.ucRefs τ sig) (V0 m c) : sProp 𝕄) from Pipeline.unscopedBufs_held c (V0 m c)]
  iintro ⟨⟨Hh, -, HO, -, Hp, -⟩, -⟩
  imodintro
  isplitl [Hh]; · iexact Hh
  isplitl [HO]; · iexists ∅; iexact HO
  isplitl [Hp]; · iexists _; iexact Hp
  iempintro

-- the launch theorem's implicit arguments are found by unifying its conclusion with this one
set_option backward.isDefEq.respectTransparency.types false in
/-- THE RUN: given that every segment number the second call reads names a row of the accumulator, every weakly fair
    execution terminates, every unscoped buffer ends at `W10` and every semaphore counter at zero. -/
theorem run_all (ρ : Dev nD → PrngReg) (hx : ∀ c t k, (iblk1 (W8 m) c 0 t (ix2 k 0)).toNat < 32768) :
    θ_run defs (onTc (τ := τ) (main (F := F))) ⟨m, fun _ => 0, ρ⟩ (fun r => (∀ (c : Dev nD) (b : Ref sig .tc),
      (Proc.devRef .tc b : DevRef τ sig) ∈ Pipeline.ucRefs τ sig → r.2.mem ((c : Thread nD τ).loc b) = W10 m c (Proc.devRef .tc b))
      ∧ r.2.sem = fun _ => 0) := by
  refine Pipeline.θ_run_regions_kit_dev_sems (pcfgs (F := F)) adm (pdats m) () cellOf_inj emb₁ defs₀ Variants.none L lv m ρ main
    (segs m Variants.none L lv rest () (pdats m) (reg0 m) (reg1 m hx) (reg2 m))
    (fun c Q => by
      rewrite [main_chain c, Seg.run_eq_chain,
        show (segs m Variants.none L lv rest () (pdats m) (reg0 m) (reg1 m hx) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (O₀ := 0)
    (hL := fun g hg => if_neg hg) (G := fun _ => iprop(emp))
    (u₀ := u₀)
    (hu₀ := u₀_own)
    (T₀ := fun c => iprop(StableHlo.held (c : Thread nD τ) (Pipeline.ucRefs τ sig) (V0 m c) ∗ rest 0 c))
    (Tₙ := fun c => iprop(StableHlo.held (c : Thread nD τ) (Pipeline.ucRefs τ sig) (W10 m c) ∗ prng c))
    (hch := fun c => ⟨.rfl, .rfl, .rfl, .rfl, .rfl, .rfl, .rfl, pre0 m c, (post0 m c).trans (pre1 m hx c), (post1 m hx c).trans (pre2 m c), (post2 m c).trans (post_end m c)⟩)
    (hinit := Pipeline.initEach L lv fun c => start_of m ρ c)
    (QY := fun c s => ∀ b : Ref sig .tc, (Proc.devRef .tc b : DevRef τ sig) ∈ Pipeline.ucRefs τ sig → s.mem ((c : Thread nD τ).loc b) = W10 m c (Proc.devRef .tc b))
    (hfin := read_end m)
    (hQ := fun _ h hz => ⟨h, funext fun g => hz g (.inr (regions_no_unscoped g.2))⟩)

/-- The same, read at the arguments and at the two results. -/
theorem run_main (ρ : Dev nD → PrngReg) (hx : ∀ c t k, (iblk1 (W8 m) c 0 t (ix2 k 0)).toNat < 32768) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v8_0) = (dat2 (W9 m) c).arrAt 1 cfg2.N
      ∧ r.2.mem ((c.tc : Thread nD τ).loc main_v8_1) = (dat2 (W9 m) c).arrAt 2 cfg2.N)
      ∧ r.2.sem = fun _ => 0) := by
  refine (θ_run defs _ _).mono (fun r h => ⟨fun c => ?_, h.2⟩) (run_all m ρ hx)
  have hm : ∀ b : Ref sig .tc, b.isScoped = false → r.2.mem ((c.tc : Thread nD τ).loc b) = W10 m c (Proc.devRef .tc b) := fun b hb =>
    h.1 c b (Finset.mem_filter.mpr ⟨StableHlo.devRef_mem_tcRefs b, fun h' => Bool.false_ne_true (hb.symm.trans h')⟩)
  refine ⟨(hm main_arg0 rfl).trans ?_, (hm main_arg1 rfl).trans ?_, (hm main_arg2 rfl).trans ?_, (hm main_arg3 rfl).trans ?_, (hm main_v8_0 rfl).trans ?_, (hm main_v8_1 rfl).trans ?_⟩
  · exact (W10_arg m c main_arg0 (by decide) (by decide) (by decide)).trans (V7_arg m c main_arg0 (by decide))
  · exact (W10_arg m c main_arg1 (by decide) (by decide) (by decide)).trans (V7_arg m c main_arg1 (by decide))
  · exact (W10_arg m c main_arg2 (by decide) (by decide) (by decide)).trans (V7_arg m c main_arg2 (by decide))
  · exact (W10_arg m c main_arg3 (by decide) (by decide) (by decide)).trans (V7_arg m c main_arg3 (by decide))
  · exact Pipeline.afterRegion_arr (dat2 (W9 m) c) (W9 m c) winFacts2.arr_inj 1
  · exact Pipeline.afterRegion_arr (dat2 (W9 m) c) (W9 m c) winFacts2.arr_inj 2

end Cert.KernelIdeal.Steps

end
-- ==== Proof.KernelIdeal.Keys.lean ====
/-
  The keys that the first call writes: the number of each point's cell, which is a row of the accumulator.
-/
module

public import proofs.«01_k».proof.Proof.KernelIdeal.Run
public import proofs.«01_k».proof.Proof.Words
public import Idealize.ShloMosaic.Lib.Pipeline.ValueKit
public import Idealize.ShloMosaic.Lib.StableHlo.ReadAt
public import Idealize.ShloMosaic.Lib.WordCmp
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first launch's block of keys: each row's cell number. -/
theorem keyOut_at (x0 : Vec F S512x5 .i32) (j : S512x1.Idx) :
    keyOut x0 j = cellWord (x0 (ix2 (j 0) 0)) (x0 (ix2 (j 0) 2)) (x0 (ix2 (j 0) 3)) := by
  unfold keyOut k0_pay2 k0_pay3 cellWord
  pointwise
  rfl

variable (m : (ℓ : Loc nD τ sig) → Buf (Elt F) ℓ)

/-- The table of coordinates and kernel indices the first launch reads, padded with zero rows. -/
def table (c : Dev nD) : S200192x5.Idx → BitVec 32 := V7 m c main_v3

/-- The array of keys the first launch writes. -/
def keysArr (c : Dev nD) : S200192x1.Idx → BitVec 32 := fun j =>
  cellWord (table m c (ix2 (j 0) 0)) (table m c (ix2 (j 0) 2)) (table m c (ix2 (j 0) 3))

/-- The block of the table at a step is the step's own. -/
theorem idx0_0 : ∀ t : Fin cfg0.N, win0_0.index t = ![t.val, 0] := by decide +kernel
/-- The block of the keys at a step is the step's own. -/
theorem idx0_4 : ∀ t : Fin cfg0.N, win0_4.index t = ![t.val, 0] := by decide +kernel
/-- The block of the keys at a step is the step's own. -/
theorem idx1_0 : ∀ t : Fin cfg1.N, win1_0.index t = ![t.val, 0] := by decide +kernel

/-- The first launch leaves the array of keys. -/
theorem keys_arr (c : Dev nD) : (dat0 (V7 m) c).arrAt 4 cfg0.N = keysArr m c := by
  refine (dat0 (V7 m) c).arrAt_eq_of_covers 4 (keysArr m c) (by decide +kernel) fun t hf y => ?_
  rw [after0_4]
  rw [keyOut_at]
  unfold keysArr table iblk0
  blk_simp
  congr 1
  · blk_ext [idx0_0 t, idx0_4 t]
  · blk_ext [idx0_0 t, idx0_4 t]
  · blk_ext [idx0_0 t, idx0_4 t]

/-- The keys as the second launch finds them. -/
theorem W8_keys (c : Dev nD) : (W8 m c main_v6_1 : S200192x1.Idx → BitVec 32) = keysArr m c :=
  (Pipeline.afterRegion_arr (dat0 (V7 m) c) (V7 m c) winFacts0.arr_inj 4).trans (keys_arr m c)

/-- One block of the second launch's keys, at an index. -/
theorem keys_block (c : Dev nD) (t : Fin cfg1.N) (k : Fin 512) (h : t.val * 512 + k.val < 200192) :
    iblk1 (W8 m) c 0 t (ix2 k 0) = keysArr m c (ix2 ⟨t.val * 512 + k.val, h⟩ 0) := by
  rw [← W8_keys]
  unfold iblk1
  blk_simp
  blk_ext [idx1_0 t]

/-- A column of the table before the kernel index: the point's coordinate, and zero below the last point. -/
theorem table_coord (c : Dev nD) (j : S200192x5.Idx) (h : (j 1).val < 4) :
    table m c j = if h0 : (j 0).val < 200000 then (m ((c.tc : Thread nD τ).loc main_arg1) : S200000x4.Idx → BitVec 32) (ix2 ⟨(j 0).val, h0⟩ ⟨(j 1).val, h⟩) else 0#32 := by
  unfold table V7 V6 V5 V4 V3 V2 V1
  after_reads_at
  split
  · after_reads_at
  · rfl

/-- Every coordinate in the table is below 32 where the points' are. -/
theorem table_lt (c : Dev nD) (hc : ∀ i, ((m ((c.tc : Thread nD τ).loc main_arg1) : S200000x4.Idx → BitVec 32) i).toNat < 32)
    (j : S200192x5.Idx) (h : (j 1).val < 4) : (table m c j).toNat < 32 := by
  rw [table_coord m c j h]
  split
  · exact hc _
  · decide

/-- Every key is a cell of the grid. -/
theorem keysArr_lt (c : Dev nD) (hc : ∀ i, ((m ((c.tc : Thread nD τ).loc main_arg1) : S200000x4.Idx → BitVec 32) i).toNat < 32)
    (j : S200192x1.Idx) : (keysArr m c j).toNat < 32768 := by
  have h0 := table_lt m c hc (ix2 (j 0) 0) (show 0 < 4 by decide)
  have h2 := table_lt m c hc (ix2 (j 0) 2) (show 2 < 4 by decide)
  have h3 := table_lt m c hc (ix2 (j 0) 3) (show 3 < 4 by decide)
  unfold keysArr
  rw [cellWord_toNat _ _ _ h0 h2 h3]
  omega

/-- The second launch's keys are cells of the grid. -/
theorem keys_bound (hc : ∀ (c : Dev nD) i, ((m ((c.tc : Thread nD τ).loc main_arg1) : S200000x4.Idx → BitVec 32) i).toNat < 32) :
    ∀ c t k, (iblk1 (W8 m) c 0 t (ix2 k 0)).toNat < 32768 := fun c t k => by
  have ht : t.val < 391 := t.isLt
  have hk : k.val < 512 := k.isLt
  rw [keys_block m c t k (by omega)]
  exact keysArr_lt m c (hc c) _

end Cert.KernelIdeal.Steps

end
-- ==== Proof.KernelIdeal.Blocks.lean ====
/-
  What the bodies of the first and third calls compute from their blocks, at an index.
-/
module

public import proofs.«01_k».proof.Proof.KernelIdeal.Keys
public import Idealize.ShloMosaic.Lib.Pipeline.ValueKit
public import Idealize.ShloMosaic.Lib.StableHlo.ReadAt
public import Idealize.ShloMosaic.Lib.WordCmp
public import Idealize.ShloMosaic.Lib.MatmulPlain
public import Idealize.ShloMosaic.Lib.Routing.Words
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Thirty-two copies of a block side by side, at an index. -/
theorem copies_at (x : S512x32.Idx → Ideal .f32) (n : Fin 512) (j : Fin 1024) (X : S512x1024.Idx → Ideal .f32)
    (h : Shape.Concatenates ((List.replicate 32 (⟨S512x32, x⟩ : (s : Shape) × (s.Idx → Ideal .f32))).map (·.1)) S512x1024 1)
    (hX : concatenate S512x1024 1 (List.replicate 32 (⟨S512x32, x⟩ : (s : Shape) × (s.Idx → Ideal .f32))) h = X) :
    X (ix2 n j) = x (ix2 n ⟨j.val % 32, Nat.mod_lt _ (by decide)⟩) := by
  rw [← hX]
  refine concatenate_replicate_apply (s₁ := S512x32) 1 32 x h rfl (ix2 n j) (ix2 n ⟨j.val % 32, Nat.mod_lt _ (by decide)⟩) rfl fun b hb => ?_
  match b with
  | ⟨0, _⟩ => rfl
  | ⟨1, _⟩ => exact absurd rfl hb

/-- The third call's decoded coordinates of a row, where the row's count is above one half. -/
theorem coord_at (i : grid2.Coords) (x0 : Vec Ideal S2048x48 .f32) (j : S2048x4.Idx) :
    coordOut i x0 j = Scalar.select (FloatOps.cmpf (F := Ideal) .ogt (x0 (ix2 (j 0) 32)) (FloatOps.ofBits .f32 0x3f000000#32))
      (if (j 1).val = 0 then BitVec.ofNat 32 (((i 0).val * 2048 + (j 0).val) / 1024) else if (j 1).val = 1 then 0#32
        else if (j 1).val = 2 then BitVec.ofNat 32 (((i 0).val * 2048 + (j 0).val) / 32 % 32) else BitVec.ofNat 32 (((i 0).val * 2048 + (j 0).val) % 32)) 0#32 := by
  have hi : (i 0).val < 16 := (i 0).isLt
  have hj : (j 0).val < 2048 := (j 0).isLt
  unfold coordOut k2_pay1 k2_pay4 k2_pay2 k2_pay6 k2_pay10 k2_pay7 k2_pay8 k2_pay9 k2_pay11 k2_pay12 k2_pay13 k2_pay14 k2_pay11 k2_pay5
  pointwise
  generalize hw : IntOp.addi (BitVec.ofNat 32 ↑(j 0)) (Scalar.muli (BitVec.ofNat 32 ↑(i 0)) 2048#32) = w
  rw [tile_row] at hw
  subst hw
  generalize hr : (i 0).val * 2048 + (j 0).val = r
  have hr' : r < 32768 := by omega
  rw [floor_quot .vector (b := 1024) _ (by decide) (by omega) (by decide) (by decide)]
  rw [floor_quot .vector (b := 32) _ (by decide) (by omega) (by decide) (by decide)]
  rw [show Scalar.select (Scalar.cmpi CmpIPredicate.eq 32#32 0#32) 1#32 32#32 = 32#32 from by decide]
  rw [floor_rem .vector (a := r) (b := 32) 32#32 _ rfl (by decide) (by omega) (by decide) (by decide)]
  rw [floor_rem .vector (a := r / 32) (b := 32) 32#32 _ rfl (by decide) (by omega) (by decide) (by decide)]
  have h1 : (j 1).val < 4 := (j 1).isLt
  split_ifs <;> first | rfl | omega

/-- A row of the first call's payload: the point's features, set out under its kernel index, times the kernels. -/
theorem pay_at (x0 : Vec Ideal S512x5 .i32)  (x1 : Vec Ideal S512x32 .f32)  (x2 : Vec Ideal S1024x32 .f32) (n : Fin 512) (o : Fin 32) :
    payOut x0 x1 x2 (ix2 n ⟨o.val, by omega⟩) = ∑ j : Fin 1024, (if x0 (ix2 n 4) = BitVec.ofNat 32 (j.val / 32) then x1 (ix2 n ⟨j.val % 32, Nat.mod_lt _ (by decide)⟩) else 0) * x2 (ix2 j o) := by
  unfold payOut k0_pay1 k0_pay4 k0_pay5 k0_pay3
  dsimp only
  generalize hX : concatenate S512x1024 1 _ _ = X
  have hX' := fun n j => copies_at _ n j X _ hX
  clear hX
  generalize hM : matmul (F := Ideal) _ _ _ _ _ = M
  have hM' := fun n o => (congrFun hM.symm (ix2 n o)).trans (Ideal.matmul_plain_apply (M := 512) (K := 1024) (N := 32) none _ _ _ n o)
  clear hM
  pointwise
  have ho := o.isLt
  rw [show (32#32 : BitVec 32) = BitVec.ofNat 32 32 from rfl, WordCmp.cmpi_eq_ofNat (by omega) (by omega), WordCmp.select_decide, if_neg (by omega), hM']
  pointwise
  refine Finset.sum_congr rfl fun j _ => ?_
  have hj := j.isLt
  rw [show ValueIdx.ix2 n j 1 = j from rfl, show ValueIdx.ix2 n j 0 = n from rfl]
  rw [floor_quot .vector (b := 32) _ (by decide) (by omega) (by decide) (by decide)]
  rw [select_eq, show X (ValueIdx.ix2 n j) = _ from hX' n j]
  rw [ite_mul, zero_mul]
  pointwise
  by_cases h : x0 (ix2 n 4) = BitVec.ofNat 32 (j.val / 32)
  · rw [if_pos h, if_pos h.symm]
    rfl
  · rw [if_neg h, if_neg (Ne.symm h)]

/-- The payload's count column is one. -/
theorem pay_count (x0 : Vec Ideal S512x5 .i32)  (x1 : Vec Ideal S512x32 .f32)  (x2 : Vec Ideal S1024x32 .f32) (n : Fin 512) :
    payOut x0 x1 x2 (ix2 n 32) = (1 : EReal) := by
  unfold payOut k0_pay1 k0_pay4 k0_pay5 k0_pay3
  dsimp only
  generalize hX : concatenate S512x48 1 _ _ = X
  clear hX
  pointwise

/-- The payload's columns after the count are zero. -/
theorem pay_rest (x0 : Vec Ideal S512x5 .i32)  (x1 : Vec Ideal S512x32 .f32)  (x2 : Vec Ideal S1024x32 .f32) (n : Fin 512) (l : Fin 48) (hl : 32 < l.val) :
    payOut x0 x1 x2 (ix2 n l) = (0 : EReal) := by
  unfold payOut k0_pay1 k0_pay4 k0_pay5 k0_pay3
  dsimp only
  generalize hM : matmul (F := Ideal) _ _ _ _ _ = M
  clear hM
  pointwise
  have h := l.isLt
  rw [show (32#32 : BitVec 32) = BitVec.ofNat 32 32 from rfl, WordCmp.cmpi_eq_ofNat (by omega) (by omega), WordCmp.select_decide, if_neg (by omega)]
  split
  · omega
  · rfl

/-- The third call's block of sums: the first 32 columns of the accumulator's block. -/
theorem flat_at (x0 : Vec Ideal S2048x48 .f32) (j : S2048x32.Idx) : flatOut x0 j = x0 (ix2 (j 0) ⟨(j 1).val, lt_trans (j 1).isLt (by decide)⟩) := by
  unfold flatOut k2_pay3 k2_pay2
  pointwise

end Cert.KernelIdeal.Steps

end
-- ==== Proof.KernelIdeal.Payload.lean ====
/-
  The payload that the first call writes: each point's product with its kernel matrix, and one in the column of counts.
-/
module

public import proofs.«01_k».proof.Proof.KernelIdeal.Keys
public import proofs.«01_k».proof.Proof.KernelIdeal.Blocks
public import Idealize.ShloMosaic.Lib.Pipeline.ValueKit
public import Idealize.ShloMosaic.Lib.StableHlo.ReadAt
public import Idealize.ShloMosaic.Lib.WordCmp
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt Ideal) ℓ)

/-- The features the first call reads: the points', padded with zero rows. -/
def featPad (c : Dev nD) : S200192x32.Idx → EReal := V7 m c main_v4

/-- The kernels the first call reads: the 32 matrices stacked. -/
def kernFlat (c : Dev nD) : S1024x32.Idx → EReal := V7 m c main_v5

/-- A row of the payload as the blocks compute it. -/
def payRow (c : Dev nD) (n : Fin 200192) (o : Fin 32) : EReal :=
  ∑ j : Fin 1024, (if table m c (ix2 n 4) = BitVec.ofNat 32 (j.val / 32) then featPad m c (ix2 n ⟨j.val % 32, Nat.mod_lt _ (by decide)⟩) else 0) * kernFlat m c (ix2 j o)

/-- The payload: a row's 32 sums, its count of one, and zeros. -/
def payArr (c : Dev nD) : S200192x48.Idx → EReal := fun y =>
  if h : (y 1).val < 32 then payRow m c (y 0) ⟨(y 1).val, h⟩ else if (y 1).val = 32 then 1 else 0

/-- The block of the features at a step is the step's own. -/
theorem idx0_1 : ∀ t : Fin cfg0.N, win0_1.index t = ![t.val, 0] := by decide +kernel
/-- The block of the stacked matrices at every step: the whole array. -/
theorem idx0_2 : ∀ t : Fin cfg0.N, win0_2.index t = ![0, 0] := by decide +kernel
/-- The block of the payload at a step is the step's own. -/
theorem idx0_3 : ∀ t : Fin cfg0.N, win0_3.index t = ![t.val, 0] := by decide +kernel
/-- The block of the payload at a step is the step's own. -/
theorem idx1_1 : ∀ t : Fin cfg1.N, win1_1.index t = ![t.val, 0] := by decide +kernel

/-- The block of the table at an index. -/
theorem blk0_0 (c : Dev nD) (t : Fin cfg0.N) (n : Fin 512) (l : Fin 5) (h : t.val * 512 + n.val < 200192) :
    iblk0 (V7 m) c 0 t (ix2 n l) = table m c (ix2 ⟨t.val * 512 + n.val, h⟩ l) := by
  unfold iblk0 table
  blk_simp
  blk_ext [idx0_0 t]

/-- The block of the features at an index. -/
theorem blk0_1 (c : Dev nD) (t : Fin cfg0.N) (n : Fin 512) (l : Fin 32) (h : t.val * 512 + n.val < 200192) :
    iblk0 (V7 m) c 1 t (ix2 n l) = featPad m c (ix2 ⟨t.val * 512 + n.val, h⟩ l) := by
  unfold iblk0 featPad
  blk_simp
  blk_ext [idx0_1 t]

/-- The block of the stacked matrices at an index. -/
theorem blk0_2 (c : Dev nD) (t : Fin cfg0.N) (n : Fin 1024) (l : Fin 32) :
    iblk0 (V7 m) c 2 t (ix2 n l) = kernFlat m c (ix2 n l) := by
  unfold iblk0 kernFlat
  blk_simp
  blk_ext [idx0_2 t]

/-- A block of the payload at an index, from the arrays. -/
theorem pay_block (c : Dev nD) (t : Fin cfg0.N) (n : Fin 512) (l : Fin 48) (h : t.val * 512 + n.val < 200192) :
    payOut (iblk0 (V7 m) c 0 t) (iblk0 (V7 m) c 1 t) (iblk0 (V7 m) c 2 t) (ix2 n l) = payArr m c (ix2 ⟨t.val * 512 + n.val, h⟩ l) := by
  unfold payArr
  by_cases h1 : l.val < 32
  · rw [dif_pos (show (ix2 (⟨t.val * 512 + n.val, h⟩ : Fin 200192) l 1).val < 32 from h1)]
    refine (pay_at _ _ _ n ⟨l.val, h1⟩).trans (Finset.sum_congr rfl fun j _ => ?_)
    rw [blk0_0 m c t n 4 h, blk0_1 m c t n _ h, blk0_2 m c t j _]
    rfl
  · rw [dif_neg (show ¬(ix2 (⟨t.val * 512 + n.val, h⟩ : Fin 200192) l 1).val < 32 from h1)]
    by_cases h2 : l.val = 32
    · rw [if_pos (show (ix2 (⟨t.val * 512 + n.val, h⟩ : Fin 200192) l 1).val = 32 from h2)]
      obtain rfl : l = 32 := Fin.ext h2
      exact pay_count _ _ _ n
    · rw [if_neg (show ¬(ix2 (⟨t.val * 512 + n.val, h⟩ : Fin 200192) l 1).val = 32 from h2)]
      exact pay_rest _ _ _ n l (by omega)

/-- The first call leaves the payload. -/
theorem pay_arr (c : Dev nD) : (dat0 (V7 m) c).arrAt 3 cfg0.N = payArr m c := by
  refine (dat0 (V7 m) c).arrAt_eq_of_covers 3 (payArr m c) (by decide +kernel) fun t hf y => ?_
  rw [after0_3]
  have ht : t.val < 391 := t.isLt
  have h0 : (y 0).val < 512 := (y 0).isLt
  refine ((congrArg _ (eq_ix2 _)).trans (pay_block m c t (y 0) (y 1) (by omega))).trans ?_
  blk_ext [idx0_3 t]

/-- The payload as the second call finds it. -/
theorem W8_pay (c : Dev nD) : (W8 m c main_v6_0 : S200192x48.Idx → EReal) = payArr m c :=
  (Pipeline.afterRegion_arr (dat0 (V7 m) c) (V7 m c) winFacts0.arr_inj 3).trans (pay_arr m c)

/-- One block of the second call's payload, at an index. -/
theorem pay_rows (c : Dev nD) (t : Fin cfg1.N) (k : Fin 512) (l : Fin 48) (h : t.val * 512 + k.val < 200192) :
    iblk1 (W8 m) c 1 t (ix2 k l) = payArr m c (ix2 ⟨t.val * 512 + k.val, h⟩ l) := by
  rw [← W8_pay]
  unfold iblk1
  blk_simp
  blk_ext [idx1_1 t]

end Cert.KernelIdeal.Steps

end
-- ==== Proof.KernelIdeal.Host.lean ====
/-
  The arrays that the host code makes before the first call, at an index, from the arguments.
-/
module

public import proofs.«01_k».proof.Proof.KernelIdeal.Keys
public import proofs.«01_k».proof.Proof.KernelIdeal.Payload
public import Idealize.ShloMosaic.Lib.Pipeline.ValueKit
public import Idealize.ShloMosaic.Lib.StableHlo.ReadAt
public import Idealize.ShloMosaic.Lib.WordCmp
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt Ideal) ℓ)

/-- The argument of features. -/
def featsOf (c : Dev nD) : S200000x32.Idx → EReal := m ((c.tc : Thread nD τ).loc main_arg0)

/-- The argument of coordinates. -/
def coordsOf (c : Dev nD) : S200000x4.Idx → BitVec 32 := m ((c.tc : Thread nD τ).loc main_arg1)

/-- The argument of kernel matrices. -/
def kernOf (c : Dev nD) : S32x32x32.Idx → EReal := m ((c.tc : Thread nD τ).loc main_arg2)

/-- The stride. -/
def strideOf (c : Dev nD) : BitVec 32 := (m ((c.tc : Thread nD τ).loc main_arg3) : S_.Idx → BitVec 32) ix0

/-- The table's last column: the point's kernel index, and zero below the last point. -/
theorem table_kidx (c : Dev nD) (n : Fin 200192) :
    table m c (ix2 n 4) = if h : n.val < 200000 then floorDiv (coordsOf m c (ix2 ⟨n.val, h⟩ 1)) (strideOf m c) else 0#32 := by
  unfold table V7 V6 V5 V4 V3 V2 V1
  after_reads_at
  split
  · after_reads_at
    rfl
  · rfl

/-- The padded features: the point's, and zero below the last point. -/
theorem featPad_at (c : Dev nD) (n : Fin 200192) (i : Fin 32) :
    featPad m c (ix2 n i) = if h : n.val < 200000 then featsOf m c (ix2 ⟨n.val, h⟩ i) else (0 : EReal) := by
  unfold featPad V7 V6 V5 V4 V3 V2 V1
  after_reads_at
  split
  · rfl
  · show (((0#32 : BitVec 32).toInt : ℝ) : EReal) = 0
    simp

/-- The stacked kernels at an index. -/
theorem kernFlat_at (c : Dev nD) (j : Fin 1024) (o : Fin 32) :
    kernFlat m c (ix2 j o) = kernOf m c (ix3 ⟨j.val / 32, by omega⟩ ⟨j.val % 32, Nat.mod_lt _ (by decide)⟩ o) := by
  unfold kernFlat V7 V6 V5 V4 V3 V2 V1
  after_reads_at
  rfl

end Cert.KernelIdeal.Steps

end
-- ==== Proof.Spec.lean ====
/-
  What the kernel and the reference both compute, as mathematics over the arguments: each point's product with the
  kernel matrix its second coordinate selects, the sum of these over the points of each cell, and the coordinates of
  each cell that holds a point.
-/
module

public import proofs.«01_k».proof.Proof.Words
public import Idealize.ShloMosaic.Lib.ValueIdx

@[expose] public section

noncomputable section

namespace Cert.Spec

open Idealize.ShloMosaic Cert.Words

/-- The points' features. -/
abbrev Feats := Shape.Idx ⟨2, ![200000, 32]⟩ → EReal
/-- The points' coordinates. -/
abbrev Coords := Shape.Idx ⟨2, ![200000, 4]⟩ → BitVec 32
/-- The kernel matrices. -/
abbrev Kern := Shape.Idx ⟨3, ![32, 32, 32]⟩ → EReal

/-- A point's kernel index. -/
def kidx (x1 : Coords) (s : BitVec 32) (n : Fin 200000) : Fin 32 :=
  ⟨(floorDiv (x1 (ix2 n 1)) s).toNat % 32, Nat.mod_lt _ (by decide)⟩

/-- A point's features times its kernel matrix. -/
def pointVal (x0 : Feats) (x1 : Coords) (x2 : Kern) (s : BitVec 32) (n : Fin 200000) (o : Fin 32) : EReal :=
  ∑ i : Fin 32, x0 (ix2 n i) * x2 (ix3 (kidx x1 s n) i o)

/-- A point's cell, as a number. -/
def cell (x1 : Coords) (n : Fin 200000) : ℕ := (cellWord (x1 (ix2 n 0)) (x1 (ix2 n 2)) (x1 (ix2 n 3))).toNat

/-- The coordinates of a cell. -/
def decode (r k : ℕ) : BitVec 32 :=
  if k = 0 then BitVec.ofNat 32 (r / 1024) else if k = 1 then 0#32 else if k = 2 then BitVec.ofNat 32 (r / 32 % 32) else BitVec.ofNat 32 (r % 32)

/-- The first result: each cell's sum over its points. -/
def sums (x0 : Feats) (x1 : Coords) (x2 : Kern) (s : BitVec 32) : Shape.Idx ⟨2, ![32768, 32]⟩ → EReal := fun y =>
  ∑ n : Fin 200000, if cell x1 n = (y 0).val then pointVal x0 x1 x2 s n (y 1) else 0

open Classical in
/-- The second result: the coordinates of the cells that hold a point, zero elsewhere. -/
def places (x1 : Coords) : Shape.Idx ⟨2, ![32768, 4]⟩ → BitVec 32 := fun y =>
  if ∃ n, cell x1 n = (y 0).val then decode (y 0).val (y 1).val else 0#32

/-- Of a sum over 32 groups of 32, only the selected group's terms are left. -/
theorem sum_group (k : Fin 32) (f : Fin 32 → EReal) (w : Fin 32 → Fin 32 → EReal) :
    (∑ j : Fin 1024, (if BitVec.ofNat 32 k.val = BitVec.ofNat 32 (j.val / 32) then f ⟨j.val % 32, Nat.mod_lt _ (by decide)⟩ else 0)
      * w ⟨j.val / 32, by omega⟩ ⟨j.val % 32, Nat.mod_lt _ (by decide)⟩) = ∑ i : Fin 32, f i * w k i := by
  rw [← Equiv.sum_comp (finProdFinEquiv (m := 32) (n := 32)) (fun j : Fin 1024 => _), Fintype.sum_prod_type]
  have hq : ∀ a b : Fin 32, (finProdFinEquiv (a, b)).val / 32 = a.val := fun a b => by
    show (b.val + 32 * a.val) / 32 = a.val
    omega
  have hr : ∀ a b : Fin 32, (finProdFinEquiv (a, b)).val % 32 = b.val := fun a b => by
    show (b.val + 32 * a.val) % 32 = b.val
    omega
  simp only [hq, hr]
  rw [Finset.sum_eq_single k]
  · simp
  · intro a _ ha
    have : ¬ BitVec.ofNat 32 k.val = BitVec.ofNat 32 a.val := fun e => by
      have := congrArg BitVec.toNat e
      simp only [BitVec.toNat_ofNat] at this
      exact ha (Fin.ext (by omega))
    simp [this]
  · intro h
    exact absurd (Finset.mem_univ k) h

/-- The coordinates of a point's own cell are the point's, with zero for the second. -/
theorem decode_cell (x1 : Coords) (n : Fin 200000) (hc : ∀ i, (x1 i).toNat < 32) (k : Fin 4) :
    decode (cell x1 n) k.val = if k = 1 then 0#32 else x1 (ix2 n k) := by
  have h0 := hc (ix2 n 0)
  have h2 := hc (ix2 n 2)
  have h3 := hc (ix2 n 3)
  unfold decode cell
  rw [cellWord_toNat _ _ _ h0 h2 h3]
  have back : ∀ (x : BitVec 32) (a : ℕ), a = x.toNat → BitVec.ofNat 32 a = x := fun x a e => by
    rw [e, BitVec.ofNat_toNat, BitVec.setWidth_eq]
  match k with
  | ⟨0, _⟩ => exact back (x1 (ix2 n 0)) _ (by omega)
  | ⟨1, _⟩ => rfl
  | ⟨2, _⟩ => exact back (x1 (ix2 n 2)) _ (by omega)
  | ⟨3, _⟩ => exact back (x1 (ix2 n 3)) _ (by omega)

/-- Every point's cell is one of the 32768. -/
theorem cell_lt (x1 : Coords) (n : Fin 200000) (hc : ∀ i, (x1 i).toNat < 32) : cell x1 n < 32768 := by
  have h0 := hc (ix2 n 0)
  have h2 := hc (ix2 n 2)
  have h3 := hc (ix2 n 3)
  unfold cell
  rw [cellWord_toNat _ _ _ h0 h2 h3]
  omega

end Cert.Spec

end
-- ==== Proof.KernelIdeal.Acc.lean ====
/-
  The accumulator after the second call: each entry is a sum over the rows of the payload; its columns of features and its column of counts.
-/
module

public import proofs.«01_k».proof.Proof.KernelIdeal.Keys
public import proofs.«01_k».proof.Proof.KernelIdeal.Host
public import proofs.«01_k».proof.Proof.Spec
public import Idealize.ShloMosaic.Lib.Pipeline.ValueKit
public import Idealize.ShloMosaic.Lib.StableHlo.ReadAt
public import Idealize.ShloMosaic.Lib.WordCmp
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words Cert.Spec
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt Ideal) ℓ)

/-- A payload row of a point is the point's product with its kernel matrix. -/
theorem payRow_point (c : Dev nD) (hc : ∀ i, (coordsOf m c i).toNat < 32) (hs : 1 ≤ (strideOf m c).toInt) (n : Fin 200000) (o : Fin 32) :
    payRow m c ⟨n.val, by omega⟩ o = pointVal (featsOf m c) (coordsOf m c) (kernOf m c) (strideOf m c) n o := by
  unfold payRow pointVal
  have hk := floorDiv_lt (coordsOf m c (ix2 n 1)) (strideOf m c) (hc _) hs
  have hw : table m c (ix2 ⟨n.val, by omega⟩ 4) = BitVec.ofNat 32 (kidx (coordsOf m c) (strideOf m c) n).val := by
    rw [table_kidx, dif_pos n.isLt]
    show _ = BitVec.ofNat 32 ((floorDiv (coordsOf m c (ix2 n 1)) (strideOf m c)).toNat % 32)
    rw [Nat.mod_eq_of_lt hk, BitVec.ofNat_toNat, BitVec.setWidth_eq]
  refine Eq.trans (Finset.sum_congr rfl fun j _ => ?_)
    (sum_group (kidx (coordsOf m c) (strideOf m c) n) (fun i => featsOf m c (ix2 n i)) (fun a i => kernOf m c (ix3 a i o)))
  rw [hw, kernFlat_at, featPad_at, dif_pos n.isLt]

/-- A payload row below the last point is zero. -/
theorem payRow_pad (c : Dev nD) (n : Fin 200192) (hn : 200000 ≤ n.val) (o : Fin 32) : payRow m c n o = 0 := by
  unfold payRow
  refine Finset.sum_eq_zero fun j _ => ?_
  rw [featPad_at, dif_neg (by omega), ite_self, zero_mul]

/-- A key of a point is the point's cell. -/
theorem key_point (c : Dev nD) (n : Fin 200000) :
    (keysArr m c (ix2 ⟨n.val, by omega⟩ 0)).toNat = cell (coordsOf m c) n := by
  have hn : n.val < 200192 := by omega
  have h0 : table m c (ix2 ⟨n.val, hn⟩ 0) = coordsOf m c (ix2 n 0) := (table_coord m c _ (show 0 < 4 by decide)).trans (dif_pos n.isLt)
  have h2 : table m c (ix2 ⟨n.val, hn⟩ 2) = coordsOf m c (ix2 n 2) := (table_coord m c _ (show 2 < 4 by decide)).trans (dif_pos n.isLt)
  have h3 : table m c (ix2 ⟨n.val, hn⟩ 3) = coordsOf m c (ix2 n 3) := (table_coord m c _ (show 3 < 4 by decide)).trans (dif_pos n.isLt)
  show (cellWord (table m c (ix2 ⟨n.val, hn⟩ 0)) (table m c (ix2 ⟨n.val, hn⟩ 2)) (table m c (ix2 ⟨n.val, hn⟩ 3))).toNat = _
  rw [h0, h2, h3]
  rfl

/-- A key below the last point is zero. -/
theorem key_pad (c : Dev nD) (n : Fin 200192) (hn : 200000 ≤ n.val) : (keysArr m c (ix2 n 0)).toNat = 0 := by
  have hn' : ¬ n.val < 200000 := by omega
  have h0 : table m c (ix2 n 0) = 0#32 := (table_coord m c _ (show 0 < 4 by decide)).trans (dif_neg hn')
  have h2 : table m c (ix2 n 2) = 0#32 := (table_coord m c _ (show 2 < 4 by decide)).trans (dif_neg hn')
  have h3 : table m c (ix2 n 3) = 0#32 := (table_coord m c _ (show 3 < 4 by decide)).trans (dif_neg hn')
  show (cellWord (table m c (ix2 n 0)) (table m c (ix2 n 2)) (table m c (ix2 n 3))).toNat = _
  rw [h0, h2, h3]
  decide

/-- What row `n` of the payload adds at an index of the accumulator (nothing past the last row). -/
def term (c : Dev nD) (y : S32768x48.Idx) (n : ℕ) : EReal :=
  if h : n < 200192 then (if (y 0).val = (keysArr m c (ix2 ⟨n, h⟩ 0)).toNat then payArr m c (ix2 ⟨n, h⟩ (y 1)) else 0) else 0

/-- Adding the first `k` rows of a block adds their terms. -/
theorem addRows_at (c : Dev nD) (t : Fin cfg1.N) (X : Vec Ideal S32768x48 .f32) (y : S32768x48.Idx) (k : ℕ) (hk : k ≤ 512) :
    addRows (F := Ideal) (iblk1 (W8 m) c 0 t) (iblk1 (W8 m) c 1 t) X k y = (X y + ∑ i ∈ Finset.range k, term m c y (t.val * 512 + i) : EReal) := by
  induction k with
  | zero =>
    rw [Finset.range_zero, Finset.sum_empty, add_zero]
    rfl
  | succ k ih =>
    have ht : t.val < 391 := t.isLt
    have hn : t.val * 512 + k < 200192 := by omega
    rw [Finset.sum_range_succ, ← add_assoc, ← ih (by omega)]
    have e : addRows (F := Ideal) (iblk1 (W8 m) c 0 t) (iblk1 (W8 m) c 1 t) X (k + 1)
        = addRow (iblk1 (W8 m) c 0 t) (iblk1 (W8 m) c 1 t) ⟨k, by omega⟩ (addRows (iblk1 (W8 m) c 0 t) (iblk1 (W8 m) c 1 t) X k) :=
      dif_pos (by omega)
    rw [e]
    unfold term
    rw [dif_pos hn, ← keys_block m c t ⟨k, by omega⟩ hn, ← pay_rows m c t ⟨k, by omega⟩ (y 1) hn]
    unfold addRow
    split
    · rfl
    · exact (add_zero _).symm

/-- The accumulator after `n` grid points is the sum of the terms of the first `512 n` rows. -/
theorem accAt_at (c : Dev nD) (y : S32768x48.Idx) (n : ℕ) (hn : n ≤ 391) :
    accAt (F := Ideal) (W8 m) c n y = (∑ i ∈ Finset.range (n * 512), term m c y i : EReal) := by
  induction n with
  | zero =>
    rw [Nat.zero_mul, Finset.range_zero, Finset.sum_empty]
    show k1_pay1 (F := Ideal) y = _
    unfold k1_pay1
    pointwise
  | succ n ih =>
    have hlt : n < cfg1.N := by show n < 391; omega
    refine (congrFun (accAt_succ (W8 m) c ⟨n, hlt⟩) y).trans ?_
    rw [addRows_at m c ⟨n, hlt⟩ _ y 512 le_rfl, ih (by omega), Nat.succ_mul, Finset.sum_range_add]

/-- The accumulator's window is the whole array at every point. -/
theorem idx1_2 : ∀ t : Fin cfg1.N, win1_2.index t = ![0, 0] := by decide +kernel

/-- The accumulator the third call reads: the sum of all rows' terms. -/
theorem W9_acc (c : Dev nD) (y : S32768x48.Idx) :
    (W9 m c main_v7 : S32768x48.Idx → EReal) y = ∑ i ∈ Finset.range 200192, term m c y i := by
  have h : (dat1 (W8 m) c).arrAt 2 cfg1.N = accAt (W8 m) c 391 := by
    refine (dat1 (W8 m) c).arrAt_eq_of_after_last 2 ⟨390, by decide⟩ (by decide +kernel) _ (fun j => ?_) ?_
    · rw [after1_2]
      rfl
    · exact Memref.isWhole_whole _
  rw [← accAt_at m c y 391 le_rfl, ← h]
  exact congrFun (Pipeline.afterRegion_arr (dat1 (W8 m) c) (W8 m c) winFacts1.arr_inj 2) y

/-- A column of sums of the accumulator: each cell's sum over its points. -/
theorem acc_sum (c : Dev nD) (hc : ∀ i, (coordsOf m c i).toNat < 32) (hs : 1 ≤ (strideOf m c).toInt) (r : Fin 32768) (o : Fin 32) :
    (∑ i ∈ Finset.range 200192, term m c (ix2 r ⟨o.val, by omega⟩) i)
      = sums (featsOf m c) (coordsOf m c) (kernOf m c) (strideOf m c) (ix2 r o) := by
  have pay : ∀ n : Fin 200192, payArr m c (ix2 n ⟨o.val, by omega⟩) = payRow m c n o := fun n => dif_pos o.isLt
  rw [show 200192 = 200000 + 192 from rfl, Finset.sum_range_add, Finset.sum_eq_zero (s := Finset.range 192), add_zero, Finset.sum_range]
  · refine Finset.sum_congr rfl fun n _ => ?_
    unfold term
    rw [dif_pos (show n.val < 200192 by omega), key_point m c n]
    rw [show payArr m c (ix2 (⟨n.val, by omega⟩ : Fin 200192) (ix2 r (⟨o.val, by omega⟩ : Fin 48) 1)) = _ from pay _]
    rw [payRow_point m c hc hs n o]
    by_cases h : cell (coordsOf m c) n = r.val
    · exact (if_pos h.symm).trans (if_pos h).symm
    · exact (if_neg (Ne.symm h)).trans (if_neg h).symm
  · intro i hi
    have hi' := Finset.mem_range.mp hi
    unfold term
    rw [dif_pos (show 200000 + i < 200192 by omega)]
    rw [show payArr m c (ix2 (⟨200000 + i, by omega⟩ : Fin 200192) (ix2 r (⟨o.val, by omega⟩ : Fin 48) 1)) = _ from pay _,
      payRow_pad m c _ (Nat.le_add_right _ _)]
    exact ite_self _

/-- The count of a cell is more than one half exactly where some row has the cell as its key. -/
theorem acc_count (c : Dev nD) (r : Fin 32768) :
    ((((1 : ℝ) / 2 : ℝ) : EReal) < ∑ i ∈ Finset.range 200192, term m c (ix2 r 32) i)
      ↔ ∃ n : Fin 200192, (keysArr m c (ix2 n 0)).toNat = r.val := by
  have pay : ∀ n : Fin 200192, payArr m c (ix2 n 32) = 1 := fun n => rfl
  have nn : ∀ i ∈ Finset.range 200192, 0 ≤ term m c (ix2 r 32) i := fun i hi => by
    unfold term
    rw [dif_pos (Finset.mem_range.mp hi), show payArr m c (ix2 (⟨i, _⟩ : Fin 200192) (ix2 r (32 : Fin 48) 1)) = _ from pay _]
    split
    · exact zero_le_one
    · exact le_rfl
  constructor
  · intro h
    by_contra hno
    have : ∑ i ∈ Finset.range 200192, term m c (ix2 r 32) i = 0 := Finset.sum_eq_zero fun i hi => by
      unfold term
      rw [dif_pos (Finset.mem_range.mp hi)]
      exact if_neg fun e => hno ⟨_, e.symm⟩
    rw [this] at h
    exact absurd h (not_lt.mpr (EReal.coe_nonneg.mpr (by norm_num)))
  · rintro ⟨n, hn⟩
    have h1 : term m c (ix2 r 32) n.val = 1 := by
      unfold term
      rw [dif_pos n.isLt]
      exact if_pos hn.symm
    refine lt_of_lt_of_le ?_ (Finset.single_le_sum nn (Finset.mem_range.mpr n.isLt))
    rw [h1, ← EReal.coe_one]
    exact EReal.coe_lt_coe_iff.mpr (by norm_num)

/-- Where some row has the cell as its key, a point lies in it or it is the first cell. -/
theorem key_hit (c : Dev nD) (r : Fin 32768) :
    (∃ n : Fin 200192, (keysArr m c (ix2 n 0)).toNat = r.val) → (∃ n, cell (coordsOf m c) n = r.val) ∨ r.val = 0 := by
  rintro ⟨n, hn⟩
  by_cases h : n.val < 200000
  · exact Or.inl ⟨⟨n.val, h⟩, (key_point m c ⟨n.val, h⟩).symm.trans hn⟩
  · exact Or.inr (hn.symm.trans (key_pad m c n (by omega)))

end Cert.KernelIdeal.Steps

end
-- ==== Proof.KernelIdeal.Results.lean ====
/-
  The two results of the third call: each cell's sum over its points, and the coordinates of the cells that hold a point.
-/
module

public import proofs.«01_k».proof.Proof.KernelIdeal.Keys
public import proofs.«01_k».proof.Proof.KernelIdeal.Acc
public import Idealize.ShloMosaic.Lib.Pipeline.ValueKit
public import Idealize.ShloMosaic.Lib.StableHlo.ReadAt
public import Idealize.ShloMosaic.Lib.WordCmp
public import proofs.«01_k».proof.Proof.Gen.KernelIdeal.Regions
public import Idealize.ShloMosaic.Lib.Pipeline.RegionArraysS

@[expose] public section

set_option maxRecDepth 16384

noncomputable section

namespace Cert.KernelIdeal.Steps

open Cert.KernelIdeal Cert.KernelIdeal.Gen Cert.Words Cert.Spec
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg HostSeg RegionSeg afterRegion)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt Ideal) ℓ)

/-- The block of the accumulator at a step is the step's own. -/
theorem idx2_0 : ∀ t : Fin cfg2.N, win2_0.index t = ![t.val, 0] := by decide +kernel
/-- The block of the first result at a step is the step's own. -/
theorem idx2_1 : ∀ t : Fin cfg2.N, win2_1.index t = ![t.val, 0] := by decide +kernel
/-- The block of the second result at a step is the step's own. -/
theorem idx2_2 : ∀ t : Fin cfg2.N, win2_2.index t = ![t.val, 0] := by decide +kernel
/-- The third call's grid has one axis: a step's coordinate is its number. -/
theorem coords2 : ∀ t : Fin cfg2.N, (grid2.coords t 0).val = t.val := by decide +kernel

/-- A block of the accumulator at an index. -/
theorem blk2_0 (c : Dev nD) (t : Fin cfg2.N) (n : Fin 2048) (l : Fin 48) (h : t.val * 2048 + n.val < 32768) :
    iblk2 (W9 m) c 0 t (ix2 n l) = (W9 m c main_v7 : S32768x48.Idx → EReal) (ix2 ⟨t.val * 2048 + n.val, h⟩ l) := by
  unfold iblk2
  blk_simp
  blk_ext [idx2_0 t]

/-- The first result: each cell's sum over its points. -/
theorem result_sums (c : Dev nD) (hc : ∀ i, (coordsOf m c i).toNat < 32) (hs : 1 ≤ (strideOf m c).toInt) :
    (dat2 (W9 m) c).arrAt 1 cfg2.N = sums (featsOf m c) (coordsOf m c) (kernOf m c) (strideOf m c) := by
  refine (dat2 (W9 m) c).arrAt_eq_of_covers 1 (sums (featsOf m c) (coordsOf m c) (kernOf m c) (strideOf m c)) (by decide +kernel) fun t hf y => ?_
  rw [after2_1]
  have ht : t.val < 16 := t.isLt
  have h0 : (y 0).val < 2048 := (y 0).isLt
  have h1 : (y 1).val < 32 := (y 1).isLt
  have hr : t.val * 2048 + (y 0).val < 32768 := by omega
  have hsum : flatOut (iblk2 (W9 m) c 0 t) y
      = sums (featsOf m c) (coordsOf m c) (kernOf m c) (strideOf m c) (ix2 ⟨t.val * 2048 + (y 0).val, hr⟩ ⟨(y 1).val, h1⟩) :=
    (flat_at _ y).trans ((blk2_0 m c t (y 0) ⟨(y 1).val, by omega⟩ hr).trans
      ((W9_acc m c _).trans (acc_sum m c hc hs ⟨t.val * 2048 + (y 0).val, hr⟩ ⟨(y 1).val, h1⟩)))
  refine hsum.trans ?_
  generalize sums (featsOf m c) (coordsOf m c) (kernOf m c) (strideOf m c) = G
  blk_ext [idx2_1 t]

/-- A selection by a strict comparison of two extended reals. -/
theorem select_gt (X h : EReal) (a b : BitVec 32) :
    Scalar.select (FloatOps.cmpf (F := Ideal) (φ := .f32) .ogt X h) a b = if h < X then a else b :=
  WordCmp.select_decide (h < X) a b

/-- The second result: the coordinates of the cells that hold a point. -/
theorem result_places (c : Dev nD) :
    (dat2 (W9 m) c).arrAt 2 cfg2.N = places (coordsOf m c) := by
  refine (dat2 (W9 m) c).arrAt_eq_of_covers 2 (places (coordsOf m c)) (by decide +kernel) fun t hf y => ?_
  rw [after2_2]
  have ht : t.val < 16 := t.isLt
  have h0 : (y 0).val < 2048 := (y 0).isLt
  have h1 : (y 1).val < 4 := (y 1).isLt
  have hr : t.val * 2048 + (y 0).val < 32768 := by omega
  have hplace : coordOut (grid2.coords t) (iblk2 (W9 m) c 0 t) y = places (coordsOf m c) (ix2 ⟨t.val * 2048 + (y 0).val, hr⟩ ⟨(y 1).val, h1⟩) := by
    rw [coord_at, coords2 t]
    show Scalar.select _ (decode (t.val * 2048 + (y 0).val) (y 1).val) 0#32 = _
    rw [show iblk2 (W9 m) c 0 t (ix2 (y 0) 32) = _ from blk2_0 m c t (y 0) 32 hr, W9_acc]
    have half : (FloatOps.ofBits (F := Ideal) .f32 0x3f000000#32) = (((1 : ℝ) / 2 : ℝ) : EReal) := by
      show Ideal.ofBits .f32 0x3f000000#32 = _
      simp [Ideal.ofBits, Ideal.ieee, -EReal.coe_mul]
      norm_num
    rw [half]
    refine (select_gt _ _ _ _).trans ?_
    have count := acc_count m c ⟨t.val * 2048 + (y 0).val, hr⟩
    by_cases hit : ∃ n : Fin 200192, (keysArr m c (ix2 n 0)).toNat = t.val * 2048 + (y 0).val
    · refine (if_pos (count.mpr hit)).trans ?_
      unfold places
      rcases key_hit m c ⟨t.val * 2048 + (y 0).val, hr⟩ hit with h | h
      · exact (if_pos h).symm
      · have h' : t.val * 2048 + (y 0).val = 0 := h
        have hd : decode (t.val * 2048 + (y 0).val) (y 1).val = 0#32 := by
          rw [h']
          unfold decode
          split_ifs <;> rfl
        by_cases q : ∃ n, cell (coordsOf m c) n = t.val * 2048 + (y 0).val
        · exact (if_pos q).symm
        · exact hd.trans (if_neg q).symm
    · refine (if_neg fun h => hit (count.mp h)).trans ?_
      unfold places
      refine (if_neg ?_).symm
      rintro ⟨n, hn⟩
      exact hit ⟨⟨n.val, by omega⟩, (key_point m c n).trans hn⟩
  refine hplace.trans ?_
  blk_ext [idx2_2 t]

end Cert.KernelIdeal.Steps

end
-- ==== Proof.Reference.Text.lean ====
/-
  The reference's two results written as a few named arrays, and the value of each of the arrays at an index.
-/
module

public import proofs.«01_k».proof.Proof.Gen.ReferenceIdeal.Run
public import proofs.«01_k».proof.Proof.Spec
public import Idealize.ShloMosaic.Lib.Routing.OpsPair
public import Idealize.ShloMosaic.Lib.Routing.OpsSet
public import Idealize.ShloMosaic.Lib.ReduceAll
public import Idealize.ShloMosaic.Lib.Pointwise

@[expose] public section

set_option maxRecDepth 8192

noncomputable section

namespace Cert.ReferenceIdeal.Steps

open Cert.ReferenceIdeal Cert.ReferenceIdeal.Gen Cert.Words Cert.Spec
open Idealize.ShloMosaic Idealize.ShloMosaic.TcCoe Idealize.SL.Sem

/-- One word at every point. -/
def splat (k : BitVec 32) : IVec S200000 32 := broadcastInDim S200000 ![] bcast_S_S200000 (constantI S_ 32 k)

/-- A vector as a column. -/
def col (v : IVec S200000 32) : IVec S200000x1 32 := broadcastInDim S200000x1 ![0] bcast_S200000_S200000x1_0 v

/-- The coordinates with the second set to zero. -/
def newCoords (x1 : IVec S200000x4 32) : IVec S200000x4 32 :=
  Host.scatter scatter_S200000x4_S1_S200000_0_1_1_0 (fun _ b => b) x1 (broadcastInDim S1 ![] bcast_S_S1 (constantI S_ 32 1#32)) (splat 0#32)

/-- The points' cells, from the coordinates. -/
def keyVec (w : IVec S200000x4 32) : IVec S200000 32 :=
  addi (muli (addi (muli (shapeCast _ (extractStridedSlice S200000x1 ![0, 0] w slices_S200000x4_S200000x1_0_0) shapeCasts_S200000x1_S200000) (splat 32#32))
    (shapeCast _ (extractStridedSlice S200000x1 ![0, 2] w slices_S200000x4_S200000x1_0_2) shapeCasts_S200000x1_S200000)) (splat 32#32))
    (shapeCast _ (extractStridedSlice S200000x1 ![0, 3] w slices_S200000x4_S200000x1_0_3) shapeCasts_S200000x1_S200000)

/-- The second coordinates. -/
def second (x1 : IVec S200000x4 32) : IVec S200000 32 :=
  shapeCast _ (extractStridedSlice S200000x1 ![0, 1] x1 slices_S200000x4_S200000x1_0_1) shapeCasts_S200000x1_S200000

/-- The floored quotient of a vector by a scalar. -/
def quotVec (a : IVec S200000 32) (s : IVec S_ 32) : IVec S200000 32 :=
  select (andi (cmpi .ne (signi a) (broadcastInDim S200000 ![] bcast_S_S200000 (signi s)))
      (cmpi .ne (Host.remsi a (broadcastInDim S200000 ![] bcast_S_S200000 s)) (splat 0#32)))
    (subi (Host.divsi a (broadcastInDim S200000 ![] bcast_S_S200000 s)) (splat 1#32)) (Host.divsi a (broadcastInDim S200000 ![] bcast_S_S200000 s))

/-- An index counted from the end where it is negative. -/
def wrapVec (v : IVec S200000 32) (k : BitVec 32) : IVec S200000 32 := select (cmpi .slt v (splat 0#32)) (addi v (splat k)) v

/-- Where an index is inside the table of 32 matrices. -/
def inside (w : IVec S200000x1 32) : IVec S200000 1 :=
  Host.reduce IntOp.andi (andi (cmpi .sge w (broadcastInDim S200000x1 ![] bcast_S_S200000x1 (constantI S_ 32 0#32)))
    (cmpi .sle w (broadcastInDim S200000x1 ![0, 1] bcast_S1x1_S200000x1_0_1 (broadcastInDim S1x1 ![1] bcast_S1_S1x1_1 (constantI S1 32 31#32)))))
    (constantI S_ 1 1#1) reducesTo_S200000x1_S200000_d1 h_S_

/-- Each point's matrix. -/
def taken (x2 : FVec Ideal S32x32x32 .f32) (w : IVec S200000x1 32) : FVec Ideal S200000x32x32 .f32 :=
  select (broadcastInDim S200000x32x32 ![0] bcast_S200000_S200000x32x32_0 (inside w))
    (Host.gather gather_S32x32x32_S200000x1_S200000x32x32_12_0_n_n_0_1_13232 x2 w)
    (broadcastInDim S200000x32x32 ![] bcast_S_S200000x32x32 (constant S_ .f32 0x7FC00000#32))

/-- Each point's features times its matrix. -/
def products (x0 : FVec Ideal S200000x32 .f32) (y : FVec Ideal S200000x32x32 .f32) : FVec Ideal S200000x32 .f32 :=
  Host.reduceAdd (mulf (broadcastInDim S200000x32x32 ![0, 1, 2] bcast_S200000x32x1_S200000x32x32_0_1_2
    (broadcastInDim S200000x32x1 ![0, 1] bcast_S200000x32_S200000x32x1_0_1 x0)) y) (constant S_ .f32 0x00000000#32) reducesTo_S200000x32x32_S200000x32_d1 h_S_

variable (m : (ℓ : Loc nD τ sig) → Buf (Elt Ideal) ℓ) (c : Dev nD)

/-- The first result, by the named arrays. -/
theorem first_eq : Value.res_main_v25 m c =
    Host.scatterAdd scatter_S32768x32_S200000x1_S200000x32_1_0_0_1 (broadcastInDim S32768x32 ![] bcast_S_S32768x32 (constant S_ .f32 0x00000000#32))
      (col (keyVec (newCoords (m ((c.tc : Thread nD τ).loc main_arg1)))))
      (products (m ((c.tc : Thread nD τ).loc main_arg0))
        (taken (m ((c.tc : Thread nD τ).loc main_arg2))
          (col (wrapVec (quotVec (second (m ((c.tc : Thread nD τ).loc main_arg1))) (m ((c.tc : Thread nD τ).loc main_arg3))) 32#32)))) := by
  unfold Value.res_main_v25
  rfl

/-- The second result, by the named arrays. -/
theorem second_eq : Value.res_main_v33 m c =
    Host.scatter scatter_S32768x4_S200000x1_S200000x4_1_0_0_1 (fun _ b => b) (broadcastInDim S32768x4 ![] bcast_S_S32768x4 (constantI S_ 32 0#32))
      (col (wrapVec (keyVec (newCoords (m ((c.tc : Thread nD τ).loc main_arg1)))) 32768#32)) (newCoords (m ((c.tc : Thread nD τ).loc main_arg1))) := by
  unfold Value.res_main_v33
  rfl

/-- A column at an index. -/
theorem col_at (v : IVec S200000 32) (n : Fin 200000) : col v (ix2 n 0) = v (ix1 n) := by
  unfold col
  pointwise

/-- The splat of the column scatter lands in the second column. -/
theorem zero_lands (j : S200000.Idx) (w : IVec S1 32) (hw : ∀ i, w i = 1#32) (n : Fin 200000) (k : Fin 4) :
    scatter_S200000x4_S1_S200000_0_1_1_0.resultIdx? j w = some (ix2 n k) ↔ (j 0).val = n.val ∧ k = 1 := by
  rw [Routing.resultIdx?_eq_some]
  have s0 : scatter_S200000x4_S1_S200000_0_1_1_0.start j w 0 = 0 := rfl
  have s1 : scatter_S200000x4_S1_S200000_0_1_1_0.start j w 1 = 1 := by
    show (w _).toInt = 1
    rw [hw]
    rfl
  have w0 : scatter_S200000x4_S1_S200000_0_1_1_0.window j 0 = (j 0).val := rfl
  have w1 : scatter_S200000x4_S1_S200000_0_1_1_0.window j 1 = 0 := rfl
  constructor
  · intro h
    have h0 := h 0
    have h1 := h 1
    rw [s0, w0] at h0
    rw [s1, w1] at h1
    have h0' : (0 : Int) + ((j 0).val : Int) = (n.val : Int) := h0
    have h1' : (1 : Int) + ((0 : ℕ) : Int) = (k.val : Int) := h1
    exact ⟨by omega, Fin.ext (by show k.val = 1; omega)⟩
  · rintro ⟨h0, h1⟩ a
    match a with
    | ⟨0, _⟩ =>
      refine (congrArg₂ (fun (x : Int) (y : ℕ) => x + (y : Int)) s0 w0).trans ?_
      show (0 : Int) + ((j 0).val : Int) = (n.val : Int)
      omega
    | ⟨1, _⟩ =>
      refine (congrArg₂ (fun (x : Int) (y : ℕ) => x + (y : Int)) s1 w1).trans ?_
      subst h1
      rfl

/-- The coordinates with the second set to zero, at an index. -/
theorem newCoords_at (x1 : IVec S200000x4 32) (n : Fin 200000) (k : Fin 4) :
    newCoords x1 (ix2 n k) = if k = 1 then 0#32 else x1 (ix2 n k) := by
  unfold newCoords
  have hw : ∀ i, (broadcastInDim S1 ![] bcast_S_S1 (constantI S_ 32 1#32) : IVec S1 32) i = 1#32 := fun _ => rfl
  by_cases hk : k = 1
  · rw [if_pos hk]
    exact Routing.scatter_set_hit _ _ _ _ _ 0#32 (fun _ _ => rfl) (ix1 n) ((zero_lands _ _ hw n k).mpr ⟨rfl, hk⟩)
  · rw [if_neg hk]
    exact Routing.scatter_set_miss _ _ _ _ _ fun j h => hk ((zero_lands j _ hw n k).mp h).2

/-- A point's cell. -/
theorem keyVec_at (x1 : IVec S200000x4 32) (n : Fin 200000) :
    keyVec (newCoords x1) (ix1 n) = cellWord (x1 (ix2 n 0)) (x1 (ix2 n 2)) (x1 (ix2 n 3)) := by
  have h : keyVec (newCoords x1) (ix1 n)
      = cellWord (newCoords x1 (ix2 n 0)) (newCoords x1 (ix2 n 2)) (newCoords x1 (ix2 n 3)) := by
    generalize newCoords x1 = w
    unfold keyVec splat cellWord
    pointwise
    rfl
  rw [h, newCoords_at, newCoords_at, newCoords_at]
  rfl

/-- A point's kernel index. -/
theorem quotVec_at (x1 : IVec S200000x4 32) (s : IVec S_ 32) (n : Fin 200000) :
    quotVec (second x1) s (ix1 n) = floorDiv (x1 (ix2 n 1)) (s ix0) := by
  have h : second x1 (ix1 n) = x1 (ix2 n 1) := by
    unfold second
    pointwise
  rw [← h]
  generalize second x1 = a
  unfold quotVec splat floorDiv signWord
  pointwise

/-- The wrap leaves a word that is small. -/
theorem wrapVec_at (v : IVec S200000 32) (k : BitVec 32) (n : Fin 200000) (h : (v (ix1 n)).toNat < 2 ^ 31) : wrapVec v k (ix1 n) = v (ix1 n) :=
  Routing.wrap_of_lt (v (ix1 n)) _ h

end Cert.ReferenceIdeal.Steps

end
-- ==== Proof.Reference.Values.lean ====
/-
  The reference's two results as mathematics over the arguments, for coordinates on the grid and a positive stride.
-/
module

public import proofs.«01_k».proof.Proof.Reference.Text

@[expose] public section

set_option maxRecDepth 8192

noncomputable section

namespace Cert.ReferenceIdeal.Steps

open Cert.ReferenceIdeal Cert.ReferenceIdeal.Gen Cert.Words Cert.Spec
open Idealize.ShloMosaic Idealize.ShloMosaic.TcCoe Idealize.SL.Sem

/-- A selection at an index where the choice is one. -/
theorem select_one {α : Type} {t : Shape} (b : IVec t 1) (f g : t.Idx → α) (i : t.Idx) (h : b i = 1#1) : select b f g i = f i := by
  show Scalar.select (b i) (f i) (g i) = f i
  rw [h]
  rfl

/-- The accumulating scatter at an index: what was there and the updates that land there. -/
theorem scatterAdd_at {t si u : Shape} (d : ScatterDims t si u) (x : FVec Ideal t .f32) (w : IVec si 32) (U : FVec Ideal u .f32) (i : t.Idx) :
    Host.scatterAdd d x w U i = (x i : EReal) + ∑ j ∈ Finset.univ.filter (fun j => d.resultIdx? j w = some i), (U j : EReal) := rfl

/-- A sum over the entries of a matrix that lie in one column and in certain rows. -/
theorem sum_hits {N K : ℕ} (P : Shape.Idx ⟨2, ![N, K]⟩ → Prop) [DecidablePred P] (U : Shape.Idx ⟨2, ![N, K]⟩ → EReal) (o : Fin K) (q : Fin N → Prop)
    [DecidablePred q] (h : ∀ n k, P (ix2 n k) ↔ q n ∧ k = o) :
    ∑ j ∈ Finset.univ.filter P, U j = ∑ n : Fin N, if q n then U (ix2 n o) else 0 := by
  rw [Finset.sum_filter, sum_idx2]
  refine Finset.sum_congr rfl fun n _ => ?_
  rw [Finset.sum_eq_single o]
  · exact if_congr ((h n o).trans ⟨fun e => e.1, fun e => ⟨e, rfl⟩⟩) rfl rfl
  · intro k _ hk
    exact if_neg fun e => hk ((h n k).mp e).2
  · intro e
    exact absurd (Finset.mem_univ o) e

/-- Every index below 32 is inside the table. -/
theorem inside_at (w : IVec S200000x1 32) (hw : ∀ n : Fin 200000, (w (ix2 n 0)).toNat < 32) (n : S200000.Idx) : inside w n = 1#1 := by
  unfold inside
  refine Host.reduce_andi_one _ _ _ _ n rfl fun i => ?_
  have hi : i = ix2 (i 0) 0 := by
    funext a
    match a with
    | ⟨0, _⟩ => rfl
    | ⟨1, _⟩ => exact Subsingleton.elim (α := Fin 1) _ _
  have h := hw (i 0)
  rw [hi]
  show IntOp.andi (IntOp.cmpi .sge (w (ix2 (i 0) 0)) 0#32) (IntOp.cmpi .sle (w (ix2 (i 0) 0)) 31#32) = 1#1
  generalize w (ix2 (i 0) 0) = x at h
  rw [WordCmp.cmpi_sge_zero, WordCmp.cmpi_sle_of_lt (by show x.toNat < 2 ^ 31; omega) (by decide), decide_eq_true (show x.toNat < 2 ^ (32 - 1) by omega),
    decide_eq_true (show x.toNat ≤ (31#32).toNat by show x.toNat ≤ 31; omega)]
  rfl

/-- A point's matrix, at an index. -/
theorem taken_at (x2 : FVec Ideal S32x32x32 .f32) (w : IVec S200000x1 32) (hw : ∀ n : Fin 200000, (w (ix2 n 0)).toNat < 32)
    (n : Fin 200000) (i o : Fin 32) :
    taken x2 w (ix3 n i o) = x2 (ix3 ⟨(w (ix2 n 0)).toNat % 32, Nat.mod_lt _ (by decide)⟩ i o) := by
  have hin : (broadcastInDim S200000x32x32 ![0] bcast_S200000_S200000x32x32_0 (inside w) : IVec S200000x32x32 1) (ix3 n i o) = 1#1 :=
    inside_at w hw _
  have h := hw n
  unfold taken
  rw [select_one _ _ _ _ hin]
  unfold Host.gather
  refine congrArg x2 (funext fun a => Fin.ext ?_)
  match a with
  | ⟨0, _⟩ =>
    show min (w _).toInt.toNat 31 + 0 + 0 = (w (ix2 n 0)).toNat % 32
    have hsi : ∀ j : S200000x1.Idx, (∀ b, (j b).val = ((ix2 n (0 : Fin 1) : S200000x1.Idx) b).val) →
        min (w j).toInt.toNat 31 + 0 + 0 = (w (ix2 n 0)).toNat % 32 := fun j hj => by
      rw [show j = ix2 n 0 from funext fun b => Fin.ext (hj b),
        WordCmp.toInt_eq_toNat_of_lt_half (show (w (ix2 n 0)).toNat < 2 ^ (32 - 1) by omega), Int.toNat_natCast]
      omega
    refine hsi _ fun b => ?_
    match b with
    | ⟨0, _⟩ => rfl
    | ⟨1, _⟩ => rfl
  | ⟨1, _⟩ =>
    show 0 + 0 + i.val = i.val
    omega
  | ⟨2, _⟩ =>
    show 0 + 0 + o.val = o.val
    omega

/-- A point's product, at an index. -/
theorem products_at (x0 : FVec Ideal S200000x32 .f32) (y : FVec Ideal S200000x32x32 .f32) (n : Fin 200000) (o : Fin 32) :
    products x0 y (ix2 n o) = ∑ i : Fin 32, (x0 (ix2 n i) : EReal) * y (ix3 n i o) := by
  unfold products
  pointwise

/-- The update of the first result lands at its point's cell and its own column. -/
theorem sum_lands (n : Fin 200000) (k : Fin 32) (w : IVec S200000x1 32) (r : Fin 32768) (o : Fin 32) :
    scatter_S32768x32_S200000x1_S200000x32_1_0_0_1.resultIdx? (ix2 n k) w = some (ix2 r o) ↔ (w (ix2 n 0)).toInt = r.val ∧ k = o := by
  rw [Routing.resultIdx?_eq_some]
  have s0 : scatter_S32768x32_S200000x1_S200000x32_1_0_0_1.start (ix2 n k) w 0 = (w (ix2 n 0)).toInt := by
    show (w _).toInt = _
    refine congrArg (fun j => (w j).toInt) (funext fun b => ?_)
    match b with
    | ⟨0, _⟩ => rfl
    | ⟨1, _⟩ => rfl
  have s1 : scatter_S32768x32_S200000x1_S200000x32_1_0_0_1.start (ix2 n k) w 1 = 0 := rfl
  have w0 : scatter_S32768x32_S200000x1_S200000x32_1_0_0_1.window (ix2 n k) 0 = 0 := rfl
  have w1 : scatter_S32768x32_S200000x1_S200000x32_1_0_0_1.window (ix2 n k) 1 = k.val := rfl
  constructor
  · intro h
    have h0 := h 0
    have h1 := h 1
    rw [s0, w0] at h0
    rw [s1, w1] at h1
    have h0' : (w (ix2 n 0)).toInt + ((0 : ℕ) : Int) = (r.val : Int) := h0
    have h1' : (0 : Int) + (k.val : Int) = (o.val : Int) := h1
    exact ⟨by omega, Fin.ext (by omega)⟩
  · rintro ⟨h0, h1⟩ a
    match a with
    | ⟨0, _⟩ =>
      refine (congrArg₂ (fun (x : Int) (y : ℕ) => x + (y : Int)) s0 w0).trans ?_
      show (w (ix2 n 0)).toInt + ((0 : ℕ) : Int) = (r.val : Int)
      omega
    | ⟨1, _⟩ =>
      refine (congrArg₂ (fun (x : Int) (y : ℕ) => x + (y : Int)) s1 w1).trans ?_
      subst h1
      show (0 : Int) + (k.val : Int) = (k.val : Int)
      omega

/-- The update of the second result lands at its point's cell and its own column. -/
theorem place_lands (n : Fin 200000) (k : Fin 4) (w : IVec S200000x1 32) (r : Fin 32768) (o : Fin 4) :
    scatter_S32768x4_S200000x1_S200000x4_1_0_0_1.resultIdx? (ix2 n k) w = some (ix2 r o) ↔ (w (ix2 n 0)).toInt = r.val ∧ k = o := by
  rw [Routing.resultIdx?_eq_some]
  have s0 : scatter_S32768x4_S200000x1_S200000x4_1_0_0_1.start (ix2 n k) w 0 = (w (ix2 n 0)).toInt := by
    show (w _).toInt = _
    refine congrArg (fun j => (w j).toInt) (funext fun b => ?_)
    match b with
    | ⟨0, _⟩ => rfl
    | ⟨1, _⟩ => rfl
  have s1 : scatter_S32768x4_S200000x1_S200000x4_1_0_0_1.start (ix2 n k) w 1 = 0 := rfl
  have w0 : scatter_S32768x4_S200000x1_S200000x4_1_0_0_1.window (ix2 n k) 0 = 0 := rfl
  have w1 : scatter_S32768x4_S200000x1_S200000x4_1_0_0_1.window (ix2 n k) 1 = k.val := rfl
  constructor
  · intro h
    have h0 := h 0
    have h1 := h 1
    rw [s0, w0] at h0
    rw [s1, w1] at h1
    have h0' : (w (ix2 n 0)).toInt + ((0 : ℕ) : Int) = (r.val : Int) := h0
    have h1' : (0 : Int) + (k.val : Int) = (o.val : Int) := h1
    exact ⟨by omega, Fin.ext (by omega)⟩
  · rintro ⟨h0, h1⟩ a
    match a with
    | ⟨0, _⟩ =>
      refine (congrArg₂ (fun (x : Int) (y : ℕ) => x + (y : Int)) s0 w0).trans ?_
      show (w (ix2 n 0)).toInt + ((0 : ℕ) : Int) = (r.val : Int)
      omega
    | ⟨1, _⟩ =>
      refine (congrArg₂ (fun (x : Int) (y : ℕ) => x + (y : Int)) s1 w1).trans ?_
      subst h1
      show (0 : Int) + (k.val : Int) = (k.val : Int)
      omega

/-- An index of a matrix by its two coordinates. -/
theorem eq_pair {a b : ℕ} (y : Shape.Idx ⟨2, ![a, b]⟩) : y = ix2 (y 0) (y 1) := by
  funext i
  match i with
  | ⟨0, _⟩ => rfl
  | ⟨1, _⟩ => rfl

section
variable (x1 : IVec S200000x4 32) (hc : ∀ i, (x1 i).toNat < 32)
include hc

/-- A point's cell as a signed number is its number. -/
theorem key_int (n : Fin 200000) : (keyVec (newCoords x1) (ix1 n)).toInt = (cell x1 n : Int) := by
  have h : (keyVec (newCoords x1) (ix1 n)).toNat = cell x1 n := by rw [keyVec_at]; rfl
  have hl := cell_lt x1 n hc
  rw [WordCmp.toInt_eq_toNat_of_lt_half (show (keyVec (newCoords x1) (ix1 n)).toNat < 2 ^ (32 - 1) by rw [h]; omega), h]

/-- A point's cell, wrapped, as a signed number. -/
theorem key_wrap_int (n : Fin 200000) : (wrapVec (keyVec (newCoords x1)) 32768#32 (ix1 n)).toInt = (cell x1 n : Int) := by
  have h : (keyVec (newCoords x1) (ix1 n)).toNat = cell x1 n := by rw [keyVec_at]; rfl
  have hl := cell_lt x1 n hc
  rw [wrapVec_at _ _ _ (by rw [h]; omega), key_int x1 hc]

/-- The second result is the coordinates of the cells that hold a point. -/
theorem second_value :
    Host.scatter scatter_S32768x4_S200000x1_S200000x4_1_0_0_1 (fun _ b => b) (broadcastInDim S32768x4 ![] bcast_S_S32768x4 (constantI S_ 32 0#32))
      (col (wrapVec (keyVec (newCoords x1)) 32768#32)) (newCoords x1) = places x1 := by
  funext y
  obtain ⟨r, o, rfl⟩ : ∃ (r : Fin 32768) (o : Fin 4), y = ix2 r o := ⟨y 0, y 1, eq_pair y⟩
  have lands : ∀ (n : Fin 200000) (k : Fin 4),
      scatter_S32768x4_S200000x1_S200000x4_1_0_0_1.resultIdx? (ix2 n k) (col (wrapVec (keyVec (newCoords x1)) 32768#32)) = some (ix2 r o)
        ↔ cell x1 n = r.val ∧ k = o := fun n k => by
    rw [place_lands, col_at, key_wrap_int x1 hc]
    exact and_congr_left fun _ => Int.ofNat_inj
  have own : ∀ (n : Fin 200000), cell x1 n = r.val → newCoords x1 (ix2 n o) = decode r.val o.val := fun n h => by
    rw [newCoords_at, ← h, decode_cell x1 n hc o]
  by_cases q : ∃ n, cell x1 n = r.val
  · refine Eq.trans ?_ (if_pos q).symm
    obtain ⟨n, hn⟩ := q
    refine Routing.scatter_set_hit _ _ _ _ _ (decode r.val o.val) (fun k hk => ?_) (ix2 n o) ((lands n o).mpr ⟨hn, rfl⟩)
    rw [eq_pair k] at hk ⊢
    obtain ⟨h, e⟩ := (lands _ _).mp hk
    rw [e]
    exact own _ h
  · refine Eq.trans ?_ (if_neg q).symm
    refine Routing.scatter_set_miss _ _ _ _ _ fun k hk => q ?_
    rw [eq_pair k] at hk
    exact ⟨_, ((lands _ _).mp hk).1⟩

/-- A point's product with its matrix. -/
theorem product_value (x0 : FVec Ideal S200000x32 .f32) (x2 : FVec Ideal S32x32x32 .f32) (s : IVec S_ 32) (hs : 1 ≤ (s ix0).toInt)
    (n : Fin 200000) (o : Fin 32) :
    products x0 (taken x2 (col (wrapVec (quotVec (second x1) s) 32#32))) (ix2 n o) = pointVal x0 x1 x2 (s ix0) n o := by
  have hq : ∀ n : Fin 200000, (col (wrapVec (quotVec (second x1) s) 32#32)) (ix2 n 0) = floorDiv (x1 (ix2 n 1)) (s ix0) := fun n => by
    have hl := floorDiv_lt (x1 (ix2 n 1)) (s ix0) (hc _) hs
    rw [col_at, wrapVec_at _ _ _ (by rw [quotVec_at]; omega), quotVec_at]
  generalize col (wrapVec (quotVec (second x1) s) 32#32) = w at hq
  rw [products_at]
  unfold pointVal kidx
  refine Finset.sum_congr rfl fun i _ => ?_
  rw [taken_at x2 w (fun n => by rw [hq]; exact floorDiv_lt _ _ (hc _) hs)]
  refine congrArg (fun k : Fin 32 => (x0 (ix2 n i) : EReal) * x2 (ix3 k i o)) (Fin.ext ?_)
  show (w (ix2 n 0)).toNat % 32 = _
  rw [hq]

/-- The first result is each cell's sum over its points. -/
theorem first_value (x0 : FVec Ideal S200000x32 .f32) (x2 : FVec Ideal S32x32x32 .f32) (s : IVec S_ 32) (hs : 1 ≤ (s ix0).toInt) :
    Host.scatterAdd scatter_S32768x32_S200000x1_S200000x32_1_0_0_1 (broadcastInDim S32768x32 ![] bcast_S_S32768x32 (constant S_ .f32 0x00000000#32))
      (col (keyVec (newCoords x1))) (products x0 (taken x2 (col (wrapVec (quotVec (second x1) s) 32#32)))) = sums x0 x1 x2 (s ix0) := by
  have hp := product_value x1 hc x0 x2 s hs
  generalize products x0 (taken x2 (col (wrapVec (quotVec (second x1) s) 32#32))) = U at hp
  have hk : ∀ n : Fin 200000, (col (keyVec (newCoords x1)) (ix2 n 0)).toInt = (cell x1 n : Int) := fun n => by rw [col_at, key_int x1 hc]
  generalize col (keyVec (newCoords x1)) = w at hk
  have h0 : ∀ i, (broadcastInDim S32768x32 ![] bcast_S_S32768x32 (constant S_ .f32 0x00000000#32) : FVec Ideal S32768x32 .f32) i = (0 : EReal) := fun i => by
    show Ideal.ofBits .f32 0x00000000#32 = 0
    simp
  generalize (broadcastInDim S32768x32 ![] bcast_S_S32768x32 (constant S_ .f32 0x00000000#32) : FVec Ideal S32768x32 .f32) = z at h0
  funext y
  obtain ⟨r, o, rfl⟩ : ∃ (r : Fin 32768) (o : Fin 32), y = ix2 r o := ⟨y 0, y 1, eq_pair y⟩
  rw [scatterAdd_at, h0, zero_add]
  refine (sum_hits _ U o (fun n => cell x1 n = r.val) fun n k => ?_).trans ?_
  · rw [sum_lands, hk]
    exact and_congr_left fun _ => Int.ofNat_inj
  · unfold sums
    exact Finset.sum_congr rfl fun n _ => if_congr Iff.rfl (hp n o) rfl

end

end Cert.ReferenceIdeal.Steps

end
-- ==== Proof.lean ====
/-
  The claim: the kernel and its ideal reading run to the end from every memory whose coordinates lie on the grid and
  whose stride is positive, the reference from every memory; all leave their arguments and every counter as they were; and on
  equal arguments the ideal kernel and the ideal reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Grid
public import proofs.«01_k».proof.Proof.Kernel.Keys
public import proofs.«01_k».proof.Proof.KernelIdeal.Keys
public import proofs.«01_k».proof.Proof.KernelIdeal.Results
public import proofs.«01_k».proof.Proof.Reference.Values
public import Idealize.ShloMosaic.Adequacy
public import Idealize.ShloMosaic.Init

@[expose] public section

noncomputable section

namespace Cert.Proof

open Idealize.ShloMosaic Idealize.SL.Sem

/-- The kernel's run: its arguments and counters are left as they were. -/
theorem frame_kernel : Cert.quiescent_Kernel := fun m ρ hpre =>
  (θ_run Cert.Kernel.defs _ _).mono (fun _ h => ⟨fun c => ⟨(h.1 c).1, (h.1 c).2.1, (h.1 c).2.2.1, (h.1 c).2.2.2.1⟩, h.2⟩)
    (Cert.Kernel.Steps.run_main m ρ (Cert.Kernel.Steps.keys_bound m fun c => (Cert.Grid.of_pre _ _ _ _ (hpre c)).1))

/-- The ideal reading's run: its arguments and counters are left as they were. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (Cert.KernelIdeal.Steps.run_main m ρ (Cert.KernelIdeal.Steps.keys_bound m fun c => (Cert.Grid.of_pre _ _ _ _ (hpre c)).1))

/-- The reference's run: its arguments are left as they were, and it has no counter. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The same for the arguments on the grid. -/
theorem frame_reference_grid : Cert.quiescent_ReferenceIdeal_pre_on_the_grid := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- On equal arguments the ideal kernel and the ideal reference end with each cell's sum over its points and the
    coordinates of the cells that hold a point. -/
theorem agree : Cert.algebraic_KernelIdeal_ReferenceIdeal := by
  intro m g m' g' hpre heq
  have grid := fun c => Cert.Grid.of_pre _ _ _ _ (hpre c)
  have hc : ∀ c i, (Cert.KernelIdeal.Steps.coordsOf m c i).toNat < 32 := fun c => (grid c).1
  have hs : ∀ c, 1 ≤ (Cert.KernelIdeal.Steps.strideOf m c).toInt := fun c => (grid c).2 ix0
  refine ⟨fun c => Cert.Spec.sums (Cert.KernelIdeal.Steps.featsOf m c) (Cert.KernelIdeal.Steps.coordsOf m c) (Cert.KernelIdeal.Steps.kernOf m c)
      (Cert.KernelIdeal.Steps.strideOf m c), fun c => Cert.Spec.places (Cert.KernelIdeal.Steps.coordsOf m c), ?_, ?_⟩
  · refine (θ_run Cert.KernelIdeal.defs _ _).mono (fun r h c => ?_)
      (Cert.KernelIdeal.Steps.run_main m g (Cert.KernelIdeal.Steps.keys_bound m fun c => (grid c).1))
    obtain ⟨a0, a1, a2, a3, r0, r1⟩ := h.1 c
    exact ⟨r0.trans (Cert.KernelIdeal.Steps.result_sums m c (hc c) (hs c)), r1.trans (Cert.KernelIdeal.Steps.result_places m c), a0, a1, a2, a3⟩
  · refine (θ_run Cert.ReferenceIdeal.defs _ _).mono (fun r h c => ?_) (Cert.ReferenceIdeal.Value.run m' g')
    obtain ⟨r0, r1, args⟩ := h c
    obtain ⟨e0, e1, e2, e3⟩ := heq c
    refine ⟨r0.trans ((Cert.ReferenceIdeal.Steps.first_eq m' c).trans ?_), r1.trans ((Cert.ReferenceIdeal.Steps.second_eq m' c).trans ?_), args⟩
    · rw [e0, e1, e2, e3]
      exact Cert.ReferenceIdeal.Steps.first_value _ (hc c) _ _ _ (hs c)
    · rw [e1]
      exact Cert.ReferenceIdeal.Steps.second_value _ (hc c)

/-- All the claims together. -/
theorem claim : Cert.Claim := ⟨Cert.Kernel.Gen.facts, Cert.KernelIdeal.Gen.facts, Cert.ReferenceIdeal.Gen.facts, Cert.Grid.facts,
  frame_kernel, frame_ideal, frame_reference, frame_reference_grid, trivial, agree⟩

end Cert.Proof

end
